-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v587) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x64x64 : Shape := ⟨4, ![8, 64, 64, 64]⟩
abbrev S64x512 : Shape := ⟨2, ![64, 512]⟩
abbrev S8x64x4096 : Shape := ⟨3, ![8, 64, 4096]⟩
abbrev S1x64x2048 : Shape := ⟨3, ![1, 64, 2048]⟩
abbrev S512 : Shape := ⟨1, ![512]⟩
abbrev S1x512 : Shape := ⟨2, ![1, 512]⟩
abbrev S64x2048 : Shape := ⟨2, ![64, 2048]⟩
abbrev S512x2048 : Shape := ⟨2, ![512, 2048]⟩
abbrev S2048 : Shape := ⟨1, ![2048]⟩
abbrev S1x2048 : Shape := ⟨2, ![1, 2048]⟩

abbrev nBuf : Space → Nat
  | .hbm => 7
  | .vmem => 5
  | .smem => 0
  | _ => 0

abbrev bufTy : (tb : Table) → Fin (tcTables nBuf tb) → BufTy
  | .hbm, ⟨0, _⟩ => ⟨S8x64x64x64, .f32⟩
  | .hbm, ⟨1, _⟩ => ⟨S64x512, .f32⟩
  | .hbm, ⟨2, _⟩ => ⟨S8x64x4096, .f32⟩
  | .hbm, ⟨3, _⟩ => ⟨S8x64x4096, .f32⟩
  | .hbm, ⟨4, _⟩ => ⟨S8x64x64x64, .f32⟩
  | .hbm, ⟨5, _⟩ => ⟨S8x64x64x64, .f32⟩
  | .hbm, ⟨6, _⟩ => ⟨S8x64x64x64, .f32⟩
  | .local _ .vmem, ⟨0, _⟩ => ⟨S1x64x2048, .f32⟩
  | .local _ .vmem, ⟨1, _⟩ => ⟨S1x64x2048, .f32⟩
  | .local _ .vmem, ⟨2, _⟩ => ⟨S64x512, .f32⟩
  | .local _ .vmem, ⟨3, _⟩ => ⟨S1x64x2048, .f32⟩
  | .local _ .vmem, ⟨4, _⟩ => ⟨S1x64x2048, .f32⟩
  | _, _ => ⟨S8x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x64x64x64 : Shape := ⟨4, ![8, 64, 64, 64]⟩
abbrev S64x512 : Shape := ⟨2, ![64, 512]⟩
abbrev S_ : Shape := ⟨0, ![]⟩
abbrev S512 : Shape := ⟨1, ![512]⟩
abbrev S1x512 : Shape := ⟨2, ![1, 512]⟩
abbrev S32768x64 : Shape := ⟨2, ![32768, 64]⟩
abbrev S32768x512 : Shape := ⟨2, ![32768, 512]⟩
abbrev S512x64 : Shape := ⟨2, ![512, 64]⟩
abbrev S32768x1 : Shape := ⟨2, ![32768, 1]⟩
abbrev S32768 : Shape := ⟨1, ![32768]⟩
abbrev S32768x1x64 : Shape := ⟨3, ![32768, 1, 64]⟩
abbrev S32768x1x1 : Shape := ⟨3, ![32768, 1, 1]⟩
abbrev S1x1 : Shape := ⟨2, ![1, 1]⟩
abbrev S1x1x1 : Shape := ⟨3, ![1, 1, 1]⟩
abbrev S32768x2x64 : Shape := ⟨3, ![32768, 2, 64]⟩
abbrev S32768x2x2 : Shape := ⟨3, ![32768, 2, 2]⟩
abbrev S2x2 : Shape := ⟨2, ![2, 2]⟩
abbrev S1x2x2 : Shape := ⟨3, ![1, 2, 2]⟩
abbrev S32768x2 : Shape := ⟨2, ![32768, 2]⟩
abbrev S32768x3x64 : Shape := ⟨3, ![32768, 3, 64]⟩
abbrev S32768x3x3 : Shape := ⟨3, ![32768, 3, 3]⟩
abbrev S3x3 : Shape := ⟨2, ![3, 3]⟩
abbrev S1x3x3 : Shape := ⟨3, ![1, 3, 3]⟩
abbrev S32768x3 : Shape := ⟨2, ![32768, 3]⟩
abbrev S32768x2x1 : Shape := ⟨3, ![32768, 2, 1]⟩
abbrev S32768x1x2 : Shape := ⟨3, ![32768, 1, 2]⟩
abbrev S32768x4x64 : Shape := ⟨3, ![32768, 4, 64]⟩
abbrev S32768x4x4 : Shape := ⟨3, ![32768, 4, 4]⟩
abbrev S4x4 : Shape := ⟨2, ![4, 4]⟩
abbrev S1x4x4 : Shape := ⟨3, ![1, 4, 4]⟩
abbrev S32768x4 : Shape := ⟨2, ![32768, 4]⟩
abbrev S32768x3x1 : Shape := ⟨3, ![32768, 3, 1]⟩
abbrev S32768x1x3 : Shape := ⟨3, ![32768, 1, 3]⟩
abbrev S32768x5x64 : Shape := ⟨3, ![32768, 5, 64]⟩
abbrev S32768x5x5 : Shape := ⟨3, ![32768, 5, 5]⟩
abbrev S5x5 : Shape := ⟨2, ![5, 5]⟩
abbrev S1x5x5 : Shape := ⟨3, ![1, 5, 5]⟩
abbrev S32768x5 : Shape := ⟨2, ![32768, 5]⟩
abbrev S32768x4x1 : Shape := ⟨3, ![32768, 4, 1]⟩
abbrev S32768x1x4 : Shape := ⟨3, ![32768, 1, 4]⟩

abbrev nBuf : Space → Nat
  | .hbm => 647
  | .vmem => 0
  | .smem => 0
  | _ => 0

abbrev hbmTy0_0 (i : Nat) : BufTy := match i % 128 with
  | 0 => ⟨S8x64x64x64, .f32⟩
  | 1 => ⟨S64x512, .f32⟩
  | 2 => ⟨S64x512, .f32⟩
  | 3 => ⟨S_, .f32⟩
  | 4 => ⟨S512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S64x512, .f32⟩
  | 11 => ⟨S64x512, .f32⟩
  | 12 => ⟨S8x64x64x64, .f32⟩
  | 13 => ⟨S32768x64, .f32⟩
  | 14 => ⟨S_, .f32⟩
  | 15 => ⟨S32768x512, .f32⟩
  | 16 => ⟨S_, .i1⟩
  | 17 => ⟨S32768x512, .i1⟩
  | 18 => ⟨S512x64, .f32⟩
  | 19 => ⟨S32768x64, .f32⟩
  | 20 => ⟨S32768x64, .f32⟩
  | 21 => ⟨S32768x512, .f32⟩
  | 22 => ⟨S32768x512, .f32⟩
  | 23 => ⟨S_, .f32⟩
  | 24 => ⟨S_, .f32⟩
  | 25 => ⟨S32768x512, .f32⟩
  | 26 => ⟨S32768x512, .f32⟩
  | 27 => ⟨S32768x1, .f32⟩
  | 28 => ⟨S32768x1, .i32⟩
  | 29 => ⟨S32768, .i32⟩
  | 30 => ⟨S512, .i32⟩
  | 31 => ⟨S1x512, .i32⟩
  | 32 => ⟨S32768x1, .i32⟩
  | 33 => ⟨S32768x512, .i32⟩
  | 34 => ⟨S32768x512, .i32⟩
  | 35 => ⟨S32768x512, .i1⟩
  | 36 => ⟨S32768x512, .i1⟩
  | 37 => ⟨S32768x512, .f32⟩
  | 38 => ⟨S512x64, .f32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S32768x1, .i32⟩
  | 47 => ⟨S32768x64, .f32⟩
  | 48 => ⟨S32768x1x64, .f32⟩
  | 49 => ⟨S32768x1x1, .f32⟩
  | 50 => ⟨S1x1, .i32⟩
  | 51 => ⟨S1x1, .i32⟩
  | 52 => ⟨S_, .i32⟩
  | 53 => ⟨S1x1, .i32⟩
  | 54 => ⟨S1x1, .i32⟩
  | 55 => ⟨S1x1, .i1⟩
  | 56 => ⟨S1x1, .f32⟩
  | 57 => ⟨S_, .f32⟩
  | 58 => ⟨S1x1, .f32⟩
  | 59 => ⟨S1x1, .f32⟩
  | 60 => ⟨S1x1x1, .f32⟩
  | 61 => ⟨S32768x1x1, .f32⟩
  | 62 => ⟨S32768x1x1, .f32⟩
  | 63 => ⟨S32768x1, .f32⟩
  | 64 => ⟨S_, .f32⟩
  | 65 => ⟨S32768x512, .f32⟩
  | 66 => ⟨S32768, .f32⟩
  | 67 => ⟨S32768, .f32⟩
  | 68 => ⟨S32768, .f32⟩
  | 69 => ⟨S32768x1, .f32⟩
  | 70 => ⟨S32768x512, .f32⟩
  | 71 => ⟨S32768x512, .f32⟩
  | 72 => ⟨S32768x512, .f32⟩
  | 73 => ⟨S512x64, .f32⟩
  | 74 => ⟨S32768x64, .f32⟩
  | 75 => ⟨S32768x64, .f32⟩
  | 76 => ⟨S32768x512, .f32⟩
  | 77 => ⟨S32768x512, .f32⟩
  | 78 => ⟨S_, .f32⟩
  | 79 => ⟨S_, .f32⟩
  | 80 => ⟨S32768x512, .f32⟩
  | 81 => ⟨S32768x512, .f32⟩
  | 82 => ⟨S32768x1, .f32⟩
  | 83 => ⟨S32768x1, .i32⟩
  | 84 => ⟨S32768, .i32⟩
  | 85 => ⟨S512, .i32⟩
  | 86 => ⟨S1x512, .i32⟩
  | 87 => ⟨S32768x1, .i32⟩
  | 88 => ⟨S32768x512, .i32⟩
  | 89 => ⟨S32768x512, .i32⟩
  | 90 => ⟨S32768x512, .i1⟩
  | 91 => ⟨S32768x512, .i1⟩
  | 92 => ⟨S32768x512, .f32⟩
  | 93 => ⟨S512x64, .f32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S32768x64, .f32⟩
  | 103 => ⟨S32768x1x64, .f32⟩
  | 104 => ⟨S32768x1x64, .f32⟩
  | 105 => ⟨S32768x2x64, .f32⟩
  | 106 => ⟨S32768x2x2, .f32⟩
  | 107 => ⟨S2x2, .i32⟩
  | 108 => ⟨S2x2, .i32⟩
  | 109 => ⟨S_, .i32⟩
  | 110 => ⟨S2x2, .i32⟩
  | 111 => ⟨S2x2, .i32⟩
  | 112 => ⟨S2x2, .i1⟩
  | 113 => ⟨S2x2, .f32⟩
  | 114 => ⟨S_, .f32⟩
  | 115 => ⟨S2x2, .f32⟩
  | 116 => ⟨S2x2, .f32⟩
  | 117 => ⟨S1x2x2, .f32⟩
  | 118 => ⟨S32768x2x2, .f32⟩
  | 119 => ⟨S32768x2x2, .f32⟩
  | 120 => ⟨S32768x2, .f32⟩
  | 121 => ⟨S_, .f32⟩
  | 122 => ⟨S32768x512, .f32⟩
  | 123 => ⟨S32768x1x1, .f32⟩
  | 124 => ⟨S32768x1, .f32⟩
  | 125 => ⟨S32768x1x1, .f32⟩
  | 126 => ⟨S32768x1, .f32⟩
  | 127 => ⟨S32768x1, .f32⟩
  | _ => ⟨S8x64x64x64, .f32⟩

abbrev hbmTy0_1 (i : Nat) : BufTy := match i % 128 with
  | 0 => ⟨S32768x1x1, .f32⟩
  | 1 => ⟨S32768x1x1, .f32⟩
  | 2 => ⟨S32768x1x1, .f32⟩
  | 3 => ⟨S32768x1x1, .f32⟩
  | 4 => ⟨S32768x1x1, .f32⟩
  | 5 => ⟨S32768x1, .f32⟩
  | 6 => ⟨S32768x1, .f32⟩
  | 7 => ⟨S32768x1, .f32⟩
  | 8 => ⟨S32768x1, .f32⟩
  | 9 => ⟨S32768, .f32⟩
  | 10 => ⟨S32768, .f32⟩
  | 11 => ⟨S32768, .f32⟩
  | 12 => ⟨S32768x1, .f32⟩
  | 13 => ⟨S32768, .f32⟩
  | 14 => ⟨S32768x1x1, .f32⟩
  | 15 => ⟨S32768, .f32⟩
  | 16 => ⟨S32768, .f32⟩
  | 17 => ⟨S32768, .f32⟩
  | 18 => ⟨S32768x1x1, .f32⟩
  | 19 => ⟨S32768, .f32⟩
  | 20 => ⟨S32768, .f32⟩
  | 21 => ⟨S32768x1, .f32⟩
  | 22 => ⟨S32768x512, .f32⟩
  | 23 => ⟨S32768x512, .f32⟩
  | 24 => ⟨S32768x512, .f32⟩
  | 25 => ⟨S32768x1, .f32⟩
  | 26 => ⟨S32768x512, .f32⟩
  | 27 => ⟨S32768x512, .f32⟩
  | 28 => ⟨S32768x512, .f32⟩
  | 29 => ⟨S512x64, .f32⟩
  | 30 => ⟨S32768x64, .f32⟩
  | 31 => ⟨S32768x64, .f32⟩
  | 32 => ⟨S32768x512, .f32⟩
  | 33 => ⟨S32768x512, .f32⟩
  | 34 => ⟨S_, .f32⟩
  | 35 => ⟨S_, .f32⟩
  | 36 => ⟨S32768x512, .f32⟩
  | 37 => ⟨S32768x512, .f32⟩
  | 38 => ⟨S32768x1, .f32⟩
  | 39 => ⟨S32768x1, .i32⟩
  | 40 => ⟨S32768, .i32⟩
  | 41 => ⟨S512, .i32⟩
  | 42 => ⟨S1x512, .i32⟩
  | 43 => ⟨S32768x1, .i32⟩
  | 44 => ⟨S32768x512, .i32⟩
  | 45 => ⟨S32768x512, .i32⟩
  | 46 => ⟨S32768x512, .i1⟩
  | 47 => ⟨S32768x512, .i1⟩
  | 48 => ⟨S32768x512, .f32⟩
  | 49 => ⟨S512x64, .f32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S32768x1, .i32⟩
  | 58 => ⟨S32768x64, .f32⟩
  | 59 => ⟨S32768x1x64, .f32⟩
  | 60 => ⟨S32768x1x64, .f32⟩
  | 61 => ⟨S32768x1x64, .f32⟩
  | 62 => ⟨S32768x3x64, .f32⟩
  | 63 => ⟨S32768x3x3, .f32⟩
  | 64 => ⟨S3x3, .i32⟩
  | 65 => ⟨S3x3, .i32⟩
  | 66 => ⟨S_, .i32⟩
  | 67 => ⟨S3x3, .i32⟩
  | 68 => ⟨S3x3, .i32⟩
  | 69 => ⟨S3x3, .i1⟩
  | 70 => ⟨S3x3, .f32⟩
  | 71 => ⟨S_, .f32⟩
  | 72 => ⟨S3x3, .f32⟩
  | 73 => ⟨S3x3, .f32⟩
  | 74 => ⟨S1x3x3, .f32⟩
  | 75 => ⟨S32768x3x3, .f32⟩
  | 76 => ⟨S32768x3x3, .f32⟩
  | 77 => ⟨S32768x3, .f32⟩
  | 78 => ⟨S_, .f32⟩
  | 79 => ⟨S32768x512, .f32⟩
  | 80 => ⟨S32768x2x1, .f32⟩
  | 81 => ⟨S32768x2, .f32⟩
  | 82 => ⟨S32768x1x1, .f32⟩
  | 83 => ⟨S32768x1, .f32⟩
  | 84 => ⟨S32768x2, .f32⟩
  | 85 => ⟨S32768x2, .f32⟩
  | 86 => ⟨S32768x2x2, .f32⟩
  | 87 => ⟨S32768x2x1, .f32⟩
  | 88 => ⟨S32768x1x2, .f32⟩
  | 89 => ⟨S32768x2x2, .f32⟩
  | 90 => ⟨S32768x2x2, .f32⟩
  | 91 => ⟨S32768x2x2, .f32⟩
  | 92 => ⟨S32768x2x2, .f32⟩
  | 93 => ⟨S32768x2, .f32⟩
  | 94 => ⟨S32768x1, .f32⟩
  | 95 => ⟨S32768x2, .f32⟩
  | 96 => ⟨S32768x2, .f32⟩
  | 97 => ⟨S32768x2, .f32⟩
  | 98 => ⟨S32768x1x1, .f32⟩
  | 99 => ⟨S32768x1, .f32⟩
  | 100 => ⟨S32768x1x1, .f32⟩
  | 101 => ⟨S32768x1, .f32⟩
  | 102 => ⟨S32768x1, .f32⟩
  | 103 => ⟨S32768x1x1, .f32⟩
  | 104 => ⟨S32768x1x1, .f32⟩
  | 105 => ⟨S32768x1x1, .f32⟩
  | 106 => ⟨S32768x1x1, .f32⟩
  | 107 => ⟨S32768x1x1, .f32⟩
  | 108 => ⟨S32768x1, .f32⟩
  | 109 => ⟨S32768x1, .f32⟩
  | 110 => ⟨S32768x1, .f32⟩
  | 111 => ⟨S32768x1, .f32⟩
  | 112 => ⟨S32768, .f32⟩
  | 113 => ⟨S32768, .f32⟩
  | 114 => ⟨S32768, .f32⟩
  | 115 => ⟨S32768x1, .f32⟩
  | 116 => ⟨S32768, .f32⟩
  | 117 => ⟨S32768x1x1, .f32⟩
  | 118 => ⟨S32768, .f32⟩
  | 119 => ⟨S32768, .f32⟩
  | 120 => ⟨S32768, .f32⟩
  | 121 => ⟨S32768x1x1, .f32⟩
  | 122 => ⟨S32768, .f32⟩
  | 123 => ⟨S32768, .f32⟩
  | 124 => ⟨S32768x1, .f32⟩
  | 125 => ⟨S32768, .f32⟩
  | 126 => ⟨S32768x1x1, .f32⟩
  | 127 => ⟨S32768, .f32⟩
  | _ => ⟨S8x64x64x64, .f32⟩

abbrev hbmTy0_2 (i : Nat) : BufTy := match i % 128 with
  | 0 => ⟨S32768, .f32⟩
  | 1 => ⟨S32768, .f32⟩
  | 2 => ⟨S32768x1x1, .f32⟩
  | 3 => ⟨S32768, .f32⟩
  | 4 => ⟨S32768, .f32⟩
  | 5 => ⟨S32768, .f32⟩
  | 6 => ⟨S32768x1x1, .f32⟩
  | 7 => ⟨S32768, .f32⟩
  | 8 => ⟨S32768, .f32⟩
  | 9 => ⟨S32768x1, .f32⟩
  | 10 => ⟨S32768x512, .f32⟩
  | 11 => ⟨S32768x512, .f32⟩
  | 12 => ⟨S32768x512, .f32⟩
  | 13 => ⟨S32768x1, .f32⟩
  | 14 => ⟨S32768x512, .f32⟩
  | 15 => ⟨S32768x512, .f32⟩
  | 16 => ⟨S32768x512, .f32⟩
  | 17 => ⟨S32768x1, .f32⟩
  | 18 => ⟨S32768x512, .f32⟩
  | 19 => ⟨S32768x512, .f32⟩
  | 20 => ⟨S32768x512, .f32⟩
  | 21 => ⟨S512x64, .f32⟩
  | 22 => ⟨S32768x64, .f32⟩
  | 23 => ⟨S32768x64, .f32⟩
  | 24 => ⟨S32768x512, .f32⟩
  | 25 => ⟨S32768x512, .f32⟩
  | 26 => ⟨S_, .f32⟩
  | 27 => ⟨S_, .f32⟩
  | 28 => ⟨S32768x512, .f32⟩
  | 29 => ⟨S32768x512, .f32⟩
  | 30 => ⟨S32768x1, .f32⟩
  | 31 => ⟨S32768x1, .i32⟩
  | 32 => ⟨S32768, .i32⟩
  | 33 => ⟨S512, .i32⟩
  | 34 => ⟨S1x512, .i32⟩
  | 35 => ⟨S32768x1, .i32⟩
  | 36 => ⟨S32768x512, .i32⟩
  | 37 => ⟨S32768x512, .i32⟩
  | 38 => ⟨S32768x512, .i1⟩
  | 39 => ⟨S32768x512, .i1⟩
  | 40 => ⟨S32768x512, .f32⟩
  | 41 => ⟨S512x64, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i32⟩
  | 48 => ⟨S32768, .i32⟩
  | 49 => ⟨S32768x1, .i32⟩
  | 50 => ⟨S32768x64, .f32⟩
  | 51 => ⟨S32768x1x64, .f32⟩
  | 52 => ⟨S32768x1x64, .f32⟩
  | 53 => ⟨S32768x1x64, .f32⟩
  | 54 => ⟨S32768x1x64, .f32⟩
  | 55 => ⟨S32768x4x64, .f32⟩
  | 56 => ⟨S32768x4x4, .f32⟩
  | 57 => ⟨S4x4, .i32⟩
  | 58 => ⟨S4x4, .i32⟩
  | 59 => ⟨S_, .i32⟩
  | 60 => ⟨S4x4, .i32⟩
  | 61 => ⟨S4x4, .i32⟩
  | 62 => ⟨S4x4, .i1⟩
  | 63 => ⟨S4x4, .f32⟩
  | 64 => ⟨S_, .f32⟩
  | 65 => ⟨S4x4, .f32⟩
  | 66 => ⟨S4x4, .f32⟩
  | 67 => ⟨S1x4x4, .f32⟩
  | 68 => ⟨S32768x4x4, .f32⟩
  | 69 => ⟨S32768x4x4, .f32⟩
  | 70 => ⟨S32768x4, .f32⟩
  | 71 => ⟨S_, .f32⟩
  | 72 => ⟨S32768x512, .f32⟩
  | 73 => ⟨S32768x3x1, .f32⟩
  | 74 => ⟨S32768x3, .f32⟩
  | 75 => ⟨S32768x1x1, .f32⟩
  | 76 => ⟨S32768x1, .f32⟩
  | 77 => ⟨S32768x3, .f32⟩
  | 78 => ⟨S32768x3, .f32⟩
  | 79 => ⟨S32768x3x3, .f32⟩
  | 80 => ⟨S32768x3x1, .f32⟩
  | 81 => ⟨S32768x1x3, .f32⟩
  | 82 => ⟨S32768x3x3, .f32⟩
  | 83 => ⟨S32768x3x3, .f32⟩
  | 84 => ⟨S32768x3x3, .f32⟩
  | 85 => ⟨S32768x3x3, .f32⟩
  | 86 => ⟨S32768x3, .f32⟩
  | 87 => ⟨S32768x1, .f32⟩
  | 88 => ⟨S32768x3, .f32⟩
  | 89 => ⟨S32768x3, .f32⟩
  | 90 => ⟨S32768x3, .f32⟩
  | 91 => ⟨S32768x2x1, .f32⟩
  | 92 => ⟨S32768x2, .f32⟩
  | 93 => ⟨S32768x1x1, .f32⟩
  | 94 => ⟨S32768x1, .f32⟩
  | 95 => ⟨S32768x2, .f32⟩
  | 96 => ⟨S32768x2, .f32⟩
  | 97 => ⟨S32768x2x2, .f32⟩
  | 98 => ⟨S32768x2x1, .f32⟩
  | 99 => ⟨S32768x1x2, .f32⟩
  | 100 => ⟨S32768x2x2, .f32⟩
  | 101 => ⟨S32768x2x2, .f32⟩
  | 102 => ⟨S32768x2x2, .f32⟩
  | 103 => ⟨S32768x2x2, .f32⟩
  | 104 => ⟨S32768x2, .f32⟩
  | 105 => ⟨S32768x1, .f32⟩
  | 106 => ⟨S32768x2, .f32⟩
  | 107 => ⟨S32768x2, .f32⟩
  | 108 => ⟨S32768x2, .f32⟩
  | 109 => ⟨S32768x1x1, .f32⟩
  | 110 => ⟨S32768x1, .f32⟩
  | 111 => ⟨S32768x1x1, .f32⟩
  | 112 => ⟨S32768x1, .f32⟩
  | 113 => ⟨S32768x1, .f32⟩
  | 114 => ⟨S32768x1x1, .f32⟩
  | 115 => ⟨S32768x1x1, .f32⟩
  | 116 => ⟨S32768x1x1, .f32⟩
  | 117 => ⟨S32768x1x1, .f32⟩
  | 118 => ⟨S32768x1x1, .f32⟩
  | 119 => ⟨S32768x1, .f32⟩
  | 120 => ⟨S32768x1, .f32⟩
  | 121 => ⟨S32768x1, .f32⟩
  | 122 => ⟨S32768x1, .f32⟩
  | 123 => ⟨S32768, .f32⟩
  | 124 => ⟨S32768, .f32⟩
  | 125 => ⟨S32768, .f32⟩
  | 126 => ⟨S32768x1, .f32⟩
  | 127 => ⟨S32768, .f32⟩
  | _ => ⟨S8x64x64x64, .f32⟩

abbrev hbmTy0_3 (i : Nat) : BufTy := match i % 128 with
  | 0 => ⟨S32768x1x1, .f32⟩
  | 1 => ⟨S32768, .f32⟩
  | 2 => ⟨S32768, .f32⟩
  | 3 => ⟨S32768, .f32⟩
  | 4 => ⟨S32768x1x1, .f32⟩
  | 5 => ⟨S32768, .f32⟩
  | 6 => ⟨S32768, .f32⟩
  | 7 => ⟨S32768x1, .f32⟩
  | 8 => ⟨S32768, .f32⟩
  | 9 => ⟨S32768x1x1, .f32⟩
  | 10 => ⟨S32768, .f32⟩
  | 11 => ⟨S32768, .f32⟩
  | 12 => ⟨S32768, .f32⟩
  | 13 => ⟨S32768x1x1, .f32⟩
  | 14 => ⟨S32768, .f32⟩
  | 15 => ⟨S32768, .f32⟩
  | 16 => ⟨S32768, .f32⟩
  | 17 => ⟨S32768x1x1, .f32⟩
  | 18 => ⟨S32768, .f32⟩
  | 19 => ⟨S32768, .f32⟩
  | 20 => ⟨S32768x1, .f32⟩
  | 21 => ⟨S32768, .f32⟩
  | 22 => ⟨S32768x1x1, .f32⟩
  | 23 => ⟨S32768, .f32⟩
  | 24 => ⟨S32768, .f32⟩
  | 25 => ⟨S32768, .f32⟩
  | 26 => ⟨S32768x1x1, .f32⟩
  | 27 => ⟨S32768, .f32⟩
  | 28 => ⟨S32768, .f32⟩
  | 29 => ⟨S32768, .f32⟩
  | 30 => ⟨S32768x1x1, .f32⟩
  | 31 => ⟨S32768, .f32⟩
  | 32 => ⟨S32768, .f32⟩
  | 33 => ⟨S32768, .f32⟩
  | 34 => ⟨S32768x1x1, .f32⟩
  | 35 => ⟨S32768, .f32⟩
  | 36 => ⟨S32768, .f32⟩
  | 37 => ⟨S32768x1, .f32⟩
  | 38 => ⟨S32768x512, .f32⟩
  | 39 => ⟨S32768x512, .f32⟩
  | 40 => ⟨S32768x512, .f32⟩
  | 41 => ⟨S32768x1, .f32⟩
  | 42 => ⟨S32768x512, .f32⟩
  | 43 => ⟨S32768x512, .f32⟩
  | 44 => ⟨S32768x512, .f32⟩
  | 45 => ⟨S32768x1, .f32⟩
  | 46 => ⟨S32768x512, .f32⟩
  | 47 => ⟨S32768x512, .f32⟩
  | 48 => ⟨S32768x512, .f32⟩
  | 49 => ⟨S32768x1, .f32⟩
  | 50 => ⟨S32768x512, .f32⟩
  | 51 => ⟨S32768x512, .f32⟩
  | 52 => ⟨S32768x512, .f32⟩
  | 53 => ⟨S512x64, .f32⟩
  | 54 => ⟨S32768x64, .f32⟩
  | 55 => ⟨S32768x64, .f32⟩
  | 56 => ⟨S32768x512, .f32⟩
  | 57 => ⟨S32768x512, .f32⟩
  | 58 => ⟨S_, .f32⟩
  | 59 => ⟨S_, .f32⟩
  | 60 => ⟨S32768x512, .f32⟩
  | 61 => ⟨S32768x512, .f32⟩
  | 62 => ⟨S32768x1, .f32⟩
  | 63 => ⟨S32768x1, .i32⟩
  | 64 => ⟨S32768, .i32⟩
  | 65 => ⟨S512, .i32⟩
  | 66 => ⟨S1x512, .i32⟩
  | 67 => ⟨S32768x1, .i32⟩
  | 68 => ⟨S32768x512, .i32⟩
  | 69 => ⟨S32768x512, .i32⟩
  | 70 => ⟨S32768x512, .i1⟩
  | 71 => ⟨S32768x512, .i1⟩
  | 72 => ⟨S32768x512, .f32⟩
  | 73 => ⟨S512x64, .f32⟩
  | 74 => ⟨S_, .i32⟩
  | 75 => ⟨S32768, .i32⟩
  | 76 => ⟨S32768, .i1⟩
  | 77 => ⟨S_, .i32⟩
  | 78 => ⟨S32768, .i32⟩
  | 79 => ⟨S32768, .i32⟩
  | 80 => ⟨S32768, .i32⟩
  | 81 => ⟨S32768x1, .i32⟩
  | 82 => ⟨S32768x64, .f32⟩
  | 83 => ⟨S32768x1x64, .f32⟩
  | 84 => ⟨S32768x1x64, .f32⟩
  | 85 => ⟨S32768x1x64, .f32⟩
  | 86 => ⟨S32768x1x64, .f32⟩
  | 87 => ⟨S32768x1x64, .f32⟩
  | 88 => ⟨S32768x5x64, .f32⟩
  | 89 => ⟨S32768x5x5, .f32⟩
  | 90 => ⟨S5x5, .i32⟩
  | 91 => ⟨S5x5, .i32⟩
  | 92 => ⟨S_, .i32⟩
  | 93 => ⟨S5x5, .i32⟩
  | 94 => ⟨S5x5, .i32⟩
  | 95 => ⟨S5x5, .i1⟩
  | 96 => ⟨S5x5, .f32⟩
  | 97 => ⟨S_, .f32⟩
  | 98 => ⟨S5x5, .f32⟩
  | 99 => ⟨S5x5, .f32⟩
  | 100 => ⟨S1x5x5, .f32⟩
  | 101 => ⟨S32768x5x5, .f32⟩
  | 102 => ⟨S32768x5x5, .f32⟩
  | 103 => ⟨S32768x5, .f32⟩
  | 104 => ⟨S_, .f32⟩
  | 105 => ⟨S32768x512, .f32⟩
  | 106 => ⟨S32768x4x1, .f32⟩
  | 107 => ⟨S32768x4, .f32⟩
  | 108 => ⟨S32768x1x1, .f32⟩
  | 109 => ⟨S32768x1, .f32⟩
  | 110 => ⟨S32768x4, .f32⟩
  | 111 => ⟨S32768x4, .f32⟩
  | 112 => ⟨S32768x4x4, .f32⟩
  | 113 => ⟨S32768x4x1, .f32⟩
  | 114 => ⟨S32768x1x4, .f32⟩
  | 115 => ⟨S32768x4x4, .f32⟩
  | 116 => ⟨S32768x4x4, .f32⟩
  | 117 => ⟨S32768x4x4, .f32⟩
  | 118 => ⟨S32768x4x4, .f32⟩
  | 119 => ⟨S32768x4, .f32⟩
  | 120 => ⟨S32768x1, .f32⟩
  | 121 => ⟨S32768x4, .f32⟩
  | 122 => ⟨S32768x4, .f32⟩
  | 123 => ⟨S32768x4, .f32⟩
  | 124 => ⟨S32768x3x1, .f32⟩
  | 125 => ⟨S32768x3, .f32⟩
  | 126 => ⟨S32768x1x1, .f32⟩
  | 127 => ⟨S32768x1, .f32⟩
  | _ => ⟨S8x64x64x64, .f32⟩

abbrev hbmTy0_4 (i : Nat) : BufTy := match i % 128 with
  | 0 => ⟨S32768x3, .f32⟩
  | 1 => ⟨S32768x3, .f32⟩
  | 2 => ⟨S32768x3x3, .f32⟩
  | 3 => ⟨S32768x3x1, .f32⟩
  | 4 => ⟨S32768x1x3, .f32⟩
  | 5 => ⟨S32768x3x3, .f32⟩
  | 6 => ⟨S32768x3x3, .f32⟩
  | 7 => ⟨S32768x3x3, .f32⟩
  | 8 => ⟨S32768x3x3, .f32⟩
  | 9 => ⟨S32768x3, .f32⟩
  | 10 => ⟨S32768x1, .f32⟩
  | 11 => ⟨S32768x3, .f32⟩
  | 12 => ⟨S32768x3, .f32⟩
  | 13 => ⟨S32768x3, .f32⟩
  | 14 => ⟨S32768x2x1, .f32⟩
  | 15 => ⟨S32768x2, .f32⟩
  | 16 => ⟨S32768x1x1, .f32⟩
  | 17 => ⟨S32768x1, .f32⟩
  | 18 => ⟨S32768x2, .f32⟩
  | 19 => ⟨S32768x2, .f32⟩
  | 20 => ⟨S32768x2x2, .f32⟩
  | 21 => ⟨S32768x2x1, .f32⟩
  | 22 => ⟨S32768x1x2, .f32⟩
  | 23 => ⟨S32768x2x2, .f32⟩
  | 24 => ⟨S32768x2x2, .f32⟩
  | 25 => ⟨S32768x2x2, .f32⟩
  | 26 => ⟨S32768x2x2, .f32⟩
  | 27 => ⟨S32768x2, .f32⟩
  | 28 => ⟨S32768x1, .f32⟩
  | 29 => ⟨S32768x2, .f32⟩
  | 30 => ⟨S32768x2, .f32⟩
  | 31 => ⟨S32768x2, .f32⟩
  | 32 => ⟨S32768x1x1, .f32⟩
  | 33 => ⟨S32768x1, .f32⟩
  | 34 => ⟨S32768x1x1, .f32⟩
  | 35 => ⟨S32768x1, .f32⟩
  | 36 => ⟨S32768x1, .f32⟩
  | 37 => ⟨S32768x1x1, .f32⟩
  | 38 => ⟨S32768x1x1, .f32⟩
  | 39 => ⟨S32768x1x1, .f32⟩
  | 40 => ⟨S32768x1x1, .f32⟩
  | 41 => ⟨S32768x1x1, .f32⟩
  | 42 => ⟨S32768x1, .f32⟩
  | 43 => ⟨S32768x1, .f32⟩
  | 44 => ⟨S32768x1, .f32⟩
  | 45 => ⟨S32768x1, .f32⟩
  | 46 => ⟨S32768, .f32⟩
  | 47 => ⟨S32768, .f32⟩
  | 48 => ⟨S32768, .f32⟩
  | 49 => ⟨S32768x1, .f32⟩
  | 50 => ⟨S32768, .f32⟩
  | 51 => ⟨S32768x1x1, .f32⟩
  | 52 => ⟨S32768, .f32⟩
  | 53 => ⟨S32768, .f32⟩
  | 54 => ⟨S32768, .f32⟩
  | 55 => ⟨S32768x1x1, .f32⟩
  | 56 => ⟨S32768, .f32⟩
  | 57 => ⟨S32768, .f32⟩
  | 58 => ⟨S32768x1, .f32⟩
  | 59 => ⟨S32768, .f32⟩
  | 60 => ⟨S32768x1x1, .f32⟩
  | 61 => ⟨S32768, .f32⟩
  | 62 => ⟨S32768, .f32⟩
  | 63 => ⟨S32768, .f32⟩
  | 64 => ⟨S32768x1x1, .f32⟩
  | 65 => ⟨S32768, .f32⟩
  | 66 => ⟨S32768, .f32⟩
  | 67 => ⟨S32768, .f32⟩
  | 68 => ⟨S32768x1x1, .f32⟩
  | 69 => ⟨S32768, .f32⟩
  | 70 => ⟨S32768, .f32⟩
  | 71 => ⟨S32768x1, .f32⟩
  | 72 => ⟨S32768, .f32⟩
  | 73 => ⟨S32768x1x1, .f32⟩
  | 74 => ⟨S32768, .f32⟩
  | 75 => ⟨S32768, .f32⟩
  | 76 => ⟨S32768, .f32⟩
  | 77 => ⟨S32768x1x1, .f32⟩
  | 78 => ⟨S32768, .f32⟩
  | 79 => ⟨S32768, .f32⟩
  | 80 => ⟨S32768, .f32⟩
  | 81 => ⟨S32768x1x1, .f32⟩
  | 82 => ⟨S32768, .f32⟩
  | 83 => ⟨S32768, .f32⟩
  | 84 => ⟨S32768, .f32⟩
  | 85 => ⟨S32768x1x1, .f32⟩
  | 86 => ⟨S32768, .f32⟩
  | 87 => ⟨S32768, .f32⟩
  | 88 => ⟨S32768x1, .f32⟩
  | 89 => ⟨S32768, .f32⟩
  | 90 => ⟨S32768x1x1, .f32⟩
  | 91 => ⟨S32768, .f32⟩
  | 92 => ⟨S32768, .f32⟩
  | 93 => ⟨S32768, .f32⟩
  | 94 => ⟨S32768x1x1, .f32⟩
  | 95 => ⟨S32768, .f32⟩
  | 96 => ⟨S32768, .f32⟩
  | 97 => ⟨S32768, .f32⟩
  | 98 => ⟨S32768x1x1, .f32⟩
  | 99 => ⟨S32768, .f32⟩
  | 100 => ⟨S32768, .f32⟩
  | 101 => ⟨S32768, .f32⟩
  | 102 => ⟨S32768x1x1, .f32⟩
  | 103 => ⟨S32768, .f32⟩
  | 104 => ⟨S32768, .f32⟩
  | 105 => ⟨S32768, .f32⟩
  | 106 => ⟨S32768x1x1, .f32⟩
  | 107 => ⟨S32768, .f32⟩
  | 108 => ⟨S32768, .f32⟩
  | 109 => ⟨S32768x1, .f32⟩
  | 110 => ⟨S32768x512, .f32⟩
  | 111 => ⟨S32768x512, .f32⟩
  | 112 => ⟨S32768x512, .f32⟩
  | 113 => ⟨S32768x1, .f32⟩
  | 114 => ⟨S32768x512, .f32⟩
  | 115 => ⟨S32768x512, .f32⟩
  | 116 => ⟨S32768x512, .f32⟩
  | 117 => ⟨S32768x1, .f32⟩
  | 118 => ⟨S32768x512, .f32⟩
  | 119 => ⟨S32768x512, .f32⟩
  | 120 => ⟨S32768x512, .f32⟩
  | 121 => ⟨S32768x1, .f32⟩
  | 122 => ⟨S32768x512, .f32⟩
  | 123 => ⟨S32768x512, .f32⟩
  | 124 => ⟨S32768x512, .f32⟩
  | 125 => ⟨S32768x1, .f32⟩
  | 126 => ⟨S32768x512, .f32⟩
  | 127 => ⟨S32768x512, .f32⟩
  | _ => ⟨S8x64x64x64, .f32⟩

abbrev hbmTy0_5 (i : Nat) : BufTy := match i % 128 with
  | 0 => ⟨S32768x512, .f32⟩
  | 1 => ⟨S512x64, .f32⟩
  | 2 => ⟨S32768x64, .f32⟩
  | 3 => ⟨S8x64x64x64, .f32⟩
  | 4 => ⟨S8x64x64x64, .f32⟩
  | 5 => ⟨S8x64x64x64, .f32⟩
  | 6 => ⟨S8x64x64x64, .f32⟩
  | _ => ⟨S8x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x64x64x64, .f32⟩

abbrev bufTy : (tb : Table) → Fin (tcTables nBuf tb) → BufTy
  | .hbm, ⟨i, _⟩ => hbmTy i
  | _, _ => ⟨S8x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_call2_v0 : Ref sig .tc := ⟨.hbm, 79, rfl⟩
abbrev main_call2_v1 : Ref sig .tc := ⟨.hbm, 80, rfl⟩
abbrev main_v59 : Ref sig .tc := ⟨.hbm, 81, rfl⟩
abbrev main_values_8 : Ref sig .tc := ⟨.hbm, 82, rfl⟩
abbrev main_indices_9 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_10 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_15 : Ref sig .tc := ⟨.hbm, 162, rfl⟩
abbrev main_call3_v0 : Ref sig .tc := ⟨.hbm, 163, rfl⟩
abbrev main_call3_v1 : Ref sig .tc := ⟨.hbm, 164, rfl⟩
abbrev main_v133 : Ref sig .tc := ⟨.hbm, 165, rfl⟩
abbrev main_values_16 : Ref sig .tc := ⟨.hbm, 166, rfl⟩
abbrev main_indices_17 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_c_18 : Ref sig .tc := ⟨.hbm, 178, rfl⟩
abbrev main_v144 : Ref sig .tc := ⟨.hbm, 179, rfl⟩
abbrev main_v145 : Ref sig .tc := ⟨.hbm, 180, rfl⟩
abbrev main_c_19 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_c_20 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_cst_21 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_cst_22 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_cst_23 : Ref sig .tc := ⟨.hbm, 282, rfl⟩
abbrev main_call4_v0 : Ref sig .tc := ⟨.hbm, 283, rfl⟩
abbrev main_call4_v1 : Ref sig .tc := ⟨.hbm, 284, rfl⟩
abbrev main_v243 : Ref sig .tc := ⟨.hbm, 285, rfl⟩
abbrev main_values_24 : Ref sig .tc := ⟨.hbm, 286, rfl⟩
abbrev main_indices_25 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_c_26 : Ref sig .tc := ⟨.hbm, 298, rfl⟩
abbrev main_v254 : Ref sig .tc := ⟨.hbm, 299, rfl⟩
abbrev main_v255 : Ref sig .tc := ⟨.hbm, 300, rfl⟩
abbrev main_c_27 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_c_28 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_cst_29 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_cst_30 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_v284 : Ref sig .tc := ⟨.hbm, 333, rfl⟩
abbrev main_v285 : Ref sig .tc := ⟨.hbm, 334, rfl⟩
abbrev main_v286 : Ref sig .tc := ⟨.hbm, 335, rfl⟩
abbrev main_v287 : Ref sig .tc := ⟨.hbm, 336, rfl⟩
abbrev main_v288 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_v375 : Ref sig .tc := ⟨.hbm, 424, rfl⟩
abbrev main_v376 : Ref sig .tc := ⟨.hbm, 425, rfl⟩
abbrev main_v377 : Ref sig .tc := ⟨.hbm, 426, rfl⟩
abbrev main_v378 : Ref sig .tc := ⟨.hbm, 427, rfl⟩
abbrev main_v379 : Ref sig .tc := ⟨.hbm, 428, rfl⟩
abbrev main_v380 : Ref sig .tc := ⟨.hbm, 429, rfl⟩
abbrev main_v381 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_cst_31 : Ref sig .tc := ⟨.hbm, 442, rfl⟩
abbrev main_call5_v0 : Ref sig .tc := ⟨.hbm, 443, rfl⟩
abbrev main_call5_v1 : Ref sig .tc := ⟨.hbm, 444, rfl⟩
abbrev main_v393 : Ref sig .tc := ⟨.hbm, 445, rfl⟩
abbrev main_values_32 : Ref sig .tc := ⟨.hbm, 446, rfl⟩
abbrev main_indices_33 : Ref sig .tc := ⟨.hbm, 447, rfl⟩
abbrev main_v394 : Ref sig .tc := ⟨.hbm, 448, rfl⟩
abbrev main_v395 : Ref sig .tc := ⟨.hbm, 449, rfl⟩
abbrev main_v396 : Ref sig .tc := ⟨.hbm, 450, rfl⟩
abbrev main_v397 : Ref sig .tc := ⟨.hbm, 451, rfl⟩
abbrev main_v398 : Ref sig .tc := ⟨.hbm, 452, rfl⟩
abbrev main_v399 : Ref sig .tc := ⟨.hbm, 453, rfl⟩
abbrev main_v400 : Ref sig .tc := ⟨.hbm, 454, rfl⟩
abbrev main_v401 : Ref sig .tc := ⟨.hbm, 455, rfl⟩
abbrev main_v402 : Ref sig .tc := ⟨.hbm, 456, rfl⟩
abbrev main_v403 : Ref sig .tc := ⟨.hbm, 457, rfl⟩
abbrev main_c_34 : Ref sig .tc := ⟨.hbm, 458, rfl⟩
abbrev main_v404 : Ref sig .tc := ⟨.hbm, 459, rfl⟩
abbrev main_v405 : Ref sig .tc := ⟨.hbm, 460, rfl⟩
abbrev main_c_35 : Ref sig .tc := ⟨.hbm, 461, rfl⟩
abbrev main_v406 : Ref sig .tc := ⟨.hbm, 462, rfl⟩
abbrev main_v407 : Ref sig .tc := ⟨.hbm, 463, rfl⟩
abbrev main_v408 : Ref sig .tc := ⟨.hbm, 464, rfl⟩
abbrev main_v409 : Ref sig .tc := ⟨.hbm, 465, rfl⟩
abbrev main_v410 : Ref sig .tc := ⟨.hbm, 466, rfl⟩
abbrev main_v411 : Ref sig .tc := ⟨.hbm, 467, rfl⟩
abbrev main_v412 : Ref sig .tc := ⟨.hbm, 468, rfl⟩
abbrev main_v413 : Ref sig .tc := ⟨.hbm, 469, rfl⟩
abbrev main_v414 : Ref sig .tc := ⟨.hbm, 470, rfl⟩
abbrev main_v415 : Ref sig .tc := ⟨.hbm, 471, rfl⟩
abbrev main_v416 : Ref sig .tc := ⟨.hbm, 472, rfl⟩
abbrev main_v417 : Ref sig .tc := ⟨.hbm, 473, rfl⟩
abbrev main_v418 : Ref sig .tc := ⟨.hbm, 474, rfl⟩
abbrev main_v419 : Ref sig .tc := ⟨.hbm, 475, rfl⟩
abbrev main_c_36 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_cst_37 : Ref sig .tc := ⟨.hbm, 481, rfl⟩
abbrev main_v424 : Ref sig .tc := ⟨.hbm, 482, rfl⟩
abbrev main_v425 : Ref sig .tc := ⟨.hbm, 483, rfl⟩
abbrev main_v426 : Ref sig .tc := ⟨.hbm, 484, rfl⟩
abbrev main_v427 : Ref sig .tc := ⟨.hbm, 485, rfl⟩
abbrev main_v428 : Ref sig .tc := ⟨.hbm, 486, rfl⟩
abbrev main_v429 : Ref sig .tc := ⟨.hbm, 487, rfl⟩
abbrev main_cst_38 : Ref sig .tc := ⟨.hbm, 488, rfl⟩
abbrev main_v430 : Ref sig .tc := ⟨.hbm, 489, rfl⟩
abbrev main_v431 : Ref sig .tc := ⟨.hbm, 490, rfl⟩
abbrev main_v432 : Ref sig .tc := ⟨.hbm, 491, rfl⟩
abbrev main_v433 : Ref sig .tc := ⟨.hbm, 492, rfl⟩
abbrev main_v434 : Ref sig .tc := ⟨.hbm, 493, rfl⟩
abbrev main_v435 : Ref sig .tc := ⟨.hbm, 494, rfl⟩
abbrev main_v436 : Ref sig .tc := ⟨.hbm, 495, rfl⟩
abbrev main_v437 : Ref sig .tc := ⟨.hbm, 496, rfl⟩
abbrev main_v438 : Ref sig .tc := ⟨.hbm, 497, rfl⟩
abbrev main_v439 : Ref sig .tc := ⟨.hbm, 498, rfl⟩
abbrev main_v440 : Ref sig .tc := ⟨.hbm, 499, rfl⟩
abbrev main_v441 : Ref sig .tc := ⟨.hbm, 500, rfl⟩
abbrev main_v442 : Ref sig .tc := ⟨.hbm, 501, rfl⟩
abbrev main_v443 : Ref sig .tc := ⟨.hbm, 502, rfl⟩
abbrev main_v444 : Ref sig .tc := ⟨.hbm, 503, rfl⟩
abbrev main_v445 : Ref sig .tc := ⟨.hbm, 504, rfl⟩
abbrev main_v446 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_v450 : Ref sig .tc := ⟨.hbm, 509, rfl⟩
abbrev main_v451 : Ref sig .tc := ⟨.hbm, 510, rfl⟩
abbrev main_v452 : Ref sig .tc := ⟨.hbm, 511, rfl⟩
abbrev main_v453 : Ref sig .tc := ⟨.hbm, 512, rfl⟩
abbrev main_v454 : Ref sig .tc := ⟨.hbm, 513, rfl⟩
abbrev main_v455 : Ref sig .tc := ⟨.hbm, 514, rfl⟩
abbrev main_v456 : Ref sig .tc := ⟨.hbm, 515, rfl⟩
abbrev main_v457 : Ref sig .tc := ⟨.hbm, 516, rfl⟩
abbrev main_v458 : Ref sig .tc := ⟨.hbm, 517, rfl⟩
abbrev main_v459 : Ref sig .tc := ⟨.hbm, 518, rfl⟩
abbrev main_v460 : Ref sig .tc := ⟨.hbm, 519, rfl⟩
abbrev main_v461 : Ref sig .tc := ⟨.hbm, 520, rfl⟩
abbrev main_v462 : Ref sig .tc := ⟨.hbm, 521, rfl⟩
abbrev main_v463 : Ref sig .tc := ⟨.hbm, 522, rfl⟩
abbrev main_v464 : Ref sig .tc := ⟨.hbm, 523, rfl⟩
abbrev main_v465 : Ref sig .tc := ⟨.hbm, 524, rfl⟩
abbrev main_v466 : Ref sig .tc := ⟨.hbm, 525, rfl⟩
abbrev main_v467 : Ref sig .tc := ⟨.hbm, 526, rfl⟩
abbrev main_v468 : Ref sig .tc := ⟨.hbm, 527, rfl⟩
abbrev main_v469 : Ref sig .tc := ⟨.hbm, 528, rfl⟩
abbrev main_v470 : Ref sig .tc := ⟨.hbm, 529, rfl⟩
abbrev main_v471 : Ref sig .tc := ⟨.hbm, 530, rfl⟩
abbrev main_v472 : Ref sig .tc := ⟨.hbm, 531, rfl⟩
abbrev main_v473 : Ref sig .tc := ⟨.hbm, 532, rfl⟩
abbrev main_v474 : Ref sig .tc := ⟨.hbm, 533, rfl⟩
abbrev main_v475 : Ref sig .tc := ⟨.hbm, 534, rfl⟩
abbrev main_v476 : Ref sig .tc := ⟨.hbm, 535, rfl⟩
abbrev main_v477 : Ref sig .tc := ⟨.hbm, 536, rfl⟩
abbrev main_v478 : Ref sig .tc := ⟨.hbm, 537, rfl⟩
abbrev main_v479 : Ref sig .tc := ⟨.hbm, 538, rfl⟩
abbrev main_v480 : Ref sig .tc := ⟨.hbm, 539, rfl⟩
abbrev main_v481 : Ref sig .tc := ⟨.hbm, 540, rfl⟩
abbrev main_v482 : Ref sig .tc := ⟨.hbm, 541, rfl⟩
abbrev main_v483 : Ref sig .tc := ⟨.hbm, 542, rfl⟩
abbrev main_v484 : Ref sig .tc := ⟨.hbm, 543, rfl⟩
abbrev main_v485 : Ref sig .tc := ⟨.hbm, 544, rfl⟩
abbrev main_v486 : Ref sig .tc := ⟨.hbm, 545, rfl⟩
abbrev main_v487 : Ref sig .tc := ⟨.hbm, 546, rfl⟩
abbrev main_v488 : Ref sig .tc := ⟨.hbm, 547, rfl⟩
abbrev main_v489 : Ref sig .tc := ⟨.hbm, 548, rfl⟩
abbrev main_v490 : Ref sig .tc := ⟨.hbm, 549, rfl⟩
abbrev main_v491 : Ref sig .tc := ⟨.hbm, 550, rfl⟩
abbrev main_v492 : Ref sig .tc := ⟨.hbm, 551, rfl⟩
abbrev main_v493 : Ref sig .tc := ⟨.hbm, 552, rfl⟩
abbrev main_v494 : Ref sig .tc := ⟨.hbm, 553, rfl⟩
abbrev main_v495 : Ref sig .tc := ⟨.hbm, 554, rfl⟩
abbrev main_v496 : Ref sig .tc := ⟨.hbm, 555, rfl⟩
abbrev main_v497 : Ref sig .tc := ⟨.hbm, 556, rfl⟩
abbrev main_v498 : Ref sig .tc := ⟨.hbm, 557, rfl⟩
abbrev main_v499 : Ref sig .tc := ⟨.hbm, 558, rfl⟩
abbrev main_v500 : Ref sig .tc := ⟨.hbm, 559, rfl⟩
abbrev main_v501 : Ref sig .tc := ⟨.hbm, 560, rfl⟩
abbrev main_v502 : Ref sig .tc := ⟨.hbm, 561, rfl⟩
abbrev main_v503 : Ref sig .tc := ⟨.hbm, 562, rfl⟩
abbrev main_v504 : Ref sig .tc := ⟨.hbm, 563, rfl⟩
abbrev main_v505 : Ref sig .tc := ⟨.hbm, 564, rfl⟩
abbrev main_v506 : Ref sig .tc := ⟨.hbm, 565, rfl⟩
abbrev main_v507 : Ref sig .tc := ⟨.hbm, 566, rfl⟩
abbrev main_v508 : Ref sig .tc := ⟨.hbm, 567, rfl⟩
abbrev main_v509 : Ref sig .tc := ⟨.hbm, 568, rfl⟩
abbrev main_v510 : Ref sig .tc := ⟨.hbm, 569, rfl⟩
abbrev main_v511 : Ref sig .tc := ⟨.hbm, 570, rfl⟩
abbrev main_v512 : Ref sig .tc := ⟨.hbm, 571, rfl⟩
abbrev main_v513 : Ref sig .tc := ⟨.hbm, 572, rfl⟩
abbrev main_v514 : Ref sig .tc := ⟨.hbm, 573, rfl⟩
abbrev main_v515 : Ref sig .tc := ⟨.hbm, 574, rfl⟩
abbrev main_v516 : Ref sig .tc := ⟨.hbm, 575, rfl⟩
abbrev main_v517 : Ref sig .tc := ⟨.hbm, 576, rfl⟩
abbrev main_v518 : Ref sig .tc := ⟨.hbm, 577, rfl⟩
abbrev main_v519 : Ref sig .tc := ⟨.hbm, 578, rfl⟩
abbrev main_v520 : Ref sig .tc := ⟨.hbm, 579, rfl⟩
abbrev main_v521 : Ref sig .tc := ⟨.hbm, 580, rfl⟩
abbrev main_v522 : Ref sig .tc := ⟨.hbm, 581, rfl⟩
abbrev main_v523 : Ref sig .tc := ⟨.hbm, 582, rfl⟩
abbrev main_v524 : Ref sig .tc := ⟨.hbm, 583, rfl⟩
abbrev main_v525 : Ref sig .tc := ⟨.hbm, 584, rfl⟩
abbrev main_v526 : Ref sig .tc := ⟨.hbm, 585, rfl⟩
abbrev main_v527 : Ref sig .tc := ⟨.hbm, 586, rfl⟩
abbrev main_v528 : Ref sig .tc := ⟨.hbm, 587, rfl⟩
abbrev main_v529 : Ref sig .tc := ⟨.hbm, 588, rfl⟩
abbrev main_v530 : Ref sig .tc := ⟨.hbm, 589, rfl⟩
abbrev main_v531 : Ref sig .tc := ⟨.hbm, 590, rfl⟩
abbrev main_v532 : Ref sig .tc := ⟨.hbm, 591, rfl⟩
abbrev main_v533 : Ref sig .tc := ⟨.hbm, 592, rfl⟩
abbrev main_v534 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539 : Ref sig .tc := ⟨.hbm, 598, rfl⟩
abbrev main_v540 : Ref sig .tc := ⟨.hbm, 599, rfl⟩
abbrev main_v541 : Ref sig .tc := ⟨.hbm, 600, rfl⟩
abbrev main_v542 : Ref sig .tc := ⟨.hbm, 601, rfl⟩
abbrev main_v543 : Ref sig .tc := ⟨.hbm, 602, rfl⟩
abbrev main_v544 : Ref sig .tc := ⟨.hbm, 603, rfl⟩
abbrev main_v545 : Ref sig .tc := ⟨.hbm, 604, rfl⟩
abbrev main_v546 : Ref sig .tc := ⟨.hbm, 605, rfl⟩
abbrev main_v547 : Ref sig .tc := ⟨.hbm, 606, rfl⟩
abbrev main_v548 : Ref sig .tc := ⟨.hbm, 607, rfl⟩
abbrev main_v549 : Ref sig .tc := ⟨.hbm, 608, rfl⟩
abbrev main_v550 : Ref sig .tc := ⟨.hbm, 609, rfl⟩
abbrev main_v551 : Ref sig .tc := ⟨.hbm, 610, rfl⟩
abbrev main_v552 : Ref sig .tc := ⟨.hbm, 611, rfl⟩
abbrev main_v553 : Ref sig .tc := ⟨.hbm, 612, rfl⟩
abbrev main_v554 : Ref sig .tc := ⟨.hbm, 613, rfl⟩
abbrev main_v555 : Ref sig .tc := ⟨.hbm, 614, rfl⟩
abbrev main_v556 : Ref sig .tc := ⟨.hbm, 615, rfl⟩
abbrev main_v557 : Ref sig .tc := ⟨.hbm, 616, rfl⟩
abbrev main_v558 : Ref sig .tc := ⟨.hbm, 617, rfl⟩
abbrev main_v559 : Ref sig .tc := ⟨.hbm, 618, rfl⟩
abbrev main_v560 : Ref sig .tc := ⟨.hbm, 619, rfl⟩
abbrev main_v561 : Ref sig .tc := ⟨.hbm, 620, rfl⟩
abbrev main_v562 : Ref sig .tc := ⟨.hbm, 621, rfl⟩
abbrev main_v563 : Ref sig .tc := ⟨.hbm, 622, rfl⟩
abbrev main_v564 : Ref sig .tc := ⟨.hbm, 623, rfl⟩
abbrev main_v565 : Ref sig .tc := ⟨.hbm, 624, rfl⟩
abbrev main_v566 : Ref sig .tc := ⟨.hbm, 625, rfl⟩
abbrev main_v567 : Ref sig .tc := ⟨.hbm, 626, rfl⟩
abbrev main_v568 : Ref sig .tc := ⟨.hbm, 627, rfl⟩
abbrev main_v569 : Ref sig .tc := ⟨.hbm, 628, rfl⟩
abbrev main_v570 : Ref sig .tc := ⟨.hbm, 629, rfl⟩
abbrev main_v571 : Ref sig .tc := ⟨.hbm, 630, rfl⟩
abbrev main_v572 : Ref sig .tc := ⟨.hbm, 631, rfl⟩
abbrev main_v573 : Ref sig .tc := ⟨.hbm, 632, rfl⟩
abbrev main_v574 : Ref sig .tc := ⟨.hbm, 633, rfl⟩
abbrev main_v575 : Ref sig .tc := ⟨.hbm, 634, rfl⟩
abbrev main_v576 : Ref sig .tc := ⟨.hbm, 635, rfl⟩
abbrev main_v577 : Ref sig .tc := ⟨.hbm, 636, rfl⟩
abbrev main_v578 : Ref sig .tc := ⟨.hbm, 637, rfl⟩
abbrev main_v579 : Ref sig .tc := ⟨.hbm, 638, rfl⟩
abbrev main_v580 : Ref sig .tc := ⟨.hbm, 639, rfl⟩
abbrev main_v581 : Ref sig .tc := ⟨.hbm, 640, rfl⟩
abbrev main_v582 : Ref sig .tc := ⟨.hbm, 641, rfl⟩
abbrev main_v583 : Ref sig .tc := ⟨.hbm, 642, rfl⟩
abbrev main_v584 : Ref sig .tc := ⟨.hbm, 643, rfl⟩
abbrev main_v585 : Ref sig .tc := ⟨.hbm, 644, rfl⟩
abbrev main_v586 : Ref sig .tc := ⟨.hbm, 645, rfl⟩
abbrev main_v587 : Ref sig .tc := ⟨.hbm, 646, rfl⟩

abbrev nD : Nat := 1
abbrev τ : Topo := Topo.v7x

variable {F : FTy → Type} [FloatOps F]
-- ==== Proof.Elim.lean ====
/- Elimination on a positive definite system, in real numbers: Schur complements, their pivots, the Cholesky
   factor; and the two ways of solving the system for a right-hand side of extended reals. -/
module

public import Idealize.ShloMosaic.PureOps.Ideal
public import Mathlib.Tactic.Linarith
public import Mathlib.Tactic.Ring
public import Mathlib.Tactic.FieldSimp
public import Mathlib.Tactic.Positivity

@[expose] public section

noncomputable section

namespace Cert.Omp

open Finset

/-- The matrix left after eliminating the first `k` unknowns (entries below `k` are not meaningful). -/
def schur (G : ℕ → ℕ → ℝ) : ℕ → ℕ → ℕ → ℝ
  | 0 => G
  | k + 1 => fun i j => schur G k i j - schur G k i k / schur G k k k * schur G k k j

/-- Elimination keeps a symmetric matrix symmetric. -/
theorem schur_symm {G : ℕ → ℕ → ℝ} (hG : ∀ i j, G i j = G j i) (k : ℕ) : ∀ i j, schur G k i j = schur G k j i := by
  induction k with
  | zero => exact hG
  | succ k ih => intro i j; simp only [schur]; rw [ih i j, ih i k, ih k j]; ring

/-- `G` is at least `ε` times the identity, as a quadratic form. -/
def Definite (ε : ℝ) (G : ℕ → ℕ → ℝ) : Prop :=
  ∀ (N : ℕ) (x : ℕ → ℝ), ε * ∑ i ∈ range N, x i ^ 2 ≤ ∑ i ∈ range N, ∑ j ∈ range N, G i j * x i * x j

/-- Every Schur complement is at least `ε` times the identity on what is left. -/
theorem schur_definite {ε : ℝ} (hε : 0 < ε) {G : ℕ → ℕ → ℝ} (hG : ∀ i j, G i j = G j i) (hd : Definite ε G) (k : ℕ) :
    ∀ (N : ℕ) (x : ℕ → ℝ), k ≤ N →
      ε * ∑ i ∈ Ico k N, x i ^ 2 ≤ ∑ i ∈ Ico k N, ∑ j ∈ Ico k N, schur G k i j * x i * x j := by
  induction k with
  | zero => intro N x _; simpa [schur, ← Finset.range_eq_Ico] using hd N x
  | succ k ih =>
    intro N x hN
    have hp : ε ≤ schur G k k k := by simpa using ih (k + 1) (fun _ => 1) (by omega)
    have hp0 : 0 < schur G k k k := lt_of_lt_of_le hε hp
    obtain ⟨d, hdd⟩ : ∃ d, d = schur G k k k := ⟨_, rfl⟩
    obtain ⟨c, hc⟩ : ∃ c, c = ∑ j ∈ Ico (k + 1) N, schur G k k j * x j := ⟨_, rfl⟩
    rw [← hdd] at hp0
    have hx : ∀ i ∈ Ico (k + 1) N, Function.update x k (-c / d) i = x i := by
      intro i hi
      rw [mem_Ico] at hi
      exact Function.update_of_ne (by omega) _ _
    have h := ih N (Function.update x k (-c / d)) (by omega)
    have hc' : ∑ i ∈ Ico (k + 1) N, schur G k i k * x i = c := by
      rw [hc]; exact sum_congr rfl fun i _ => by rw [schur_symm hG k i k]
    have e1 : ∑ i ∈ Ico k N, Function.update x k (-c / d) i ^ 2
        = (-c / d) ^ 2 + ∑ i ∈ Ico (k + 1) N, x i ^ 2 := by
      rw [sum_eq_sum_Ico_succ_bot (by omega : k < N), Function.update_self]
      exact congrArg _ (sum_congr rfl fun i hi => by rw [hx i hi])
    have e2 : ∑ i ∈ Ico k N, ∑ j ∈ Ico k N,
          schur G k i j * Function.update x k (-c / d) i * Function.update x k (-c / d) j
        = d * (-c / d) ^ 2 + 2 * ((-c / d) * c) + ∑ i ∈ Ico (k + 1) N, ∑ j ∈ Ico (k + 1) N, schur G k i j * x i * x j := by
      rw [sum_eq_sum_Ico_succ_bot (by omega : k < N), sum_eq_sum_Ico_succ_bot (by omega : k < N), Function.update_self, ← hdd]
      have a1 : ∑ j ∈ Ico (k + 1) N, schur G k k j * (-c / d) * Function.update x k (-c / d) j = (-c / d) * c := by
        rw [show (-c / d) * c = (-c / d) * ∑ j ∈ Ico (k + 1) N, schur G k k j * x j from by rw [← hc], mul_sum]
        exact sum_congr rfl fun j hj => by rw [hx j hj]; ring
      have a2 : ∑ i ∈ Ico (k + 1) N, ∑ j ∈ Ico k N,
            schur G k i j * Function.update x k (-c / d) i * Function.update x k (-c / d) j
          = (-c / d) * c + ∑ i ∈ Ico (k + 1) N, ∑ j ∈ Ico (k + 1) N, schur G k i j * x i * x j := by
        rw [show (-c / d) * c = (-c / d) * ∑ i ∈ Ico (k + 1) N, schur G k i k * x i from by rw [hc'], mul_sum,
          ← sum_add_distrib]
        refine sum_congr rfl fun i hi => ?_
        rw [sum_eq_sum_Ico_succ_bot (by omega : k < N), Function.update_self, hx i hi]
        congr 1
        · ring
        · exact sum_congr rfl fun j hj => by rw [hx j hj]
      rw [a1, a2]; ring
    have e3 : ∑ i ∈ Ico (k + 1) N, ∑ j ∈ Ico (k + 1) N, schur G (k + 1) i j * x i * x j
        = (∑ i ∈ Ico (k + 1) N, ∑ j ∈ Ico (k + 1) N, schur G k i j * x i * x j) - c * c / d := by
      have : c * c / d = ∑ i ∈ Ico (k + 1) N, ∑ j ∈ Ico (k + 1) N,
          (schur G k i k * x i) * (schur G k k j * x j) / d := by
        rw [show c * c = (∑ i ∈ Ico (k + 1) N, schur G k i k * x i) * ∑ j ∈ Ico (k + 1) N, schur G k k j * x j from by
          rw [hc', ← hc], sum_mul_sum, sum_div]
        refine sum_congr rfl fun i _ => ?_
        rw [sum_div]
      rw [this, ← sum_sub_distrib]
      refine sum_congr rfl fun i _ => ?_
      rw [← sum_sub_distrib]
      refine sum_congr rfl fun j _ => ?_
      simp only [schur]; rw [← hdd]; ring
    rw [e1, e2] at h
    rw [e3]
    have e4 : d * (-c / d) ^ 2 + 2 * ((-c / d) * c) = -(c * c / d) := by field_simp; ring
    have e5 : 0 ≤ ε * (-c / d) ^ 2 := by positivity
    rw [mul_add] at h
    linarith

/-- The pivots of elimination are positive. -/
theorem pivot_pos {ε : ℝ} (hε : 0 < ε) {G : ℕ → ℕ → ℝ} (hG : ∀ i j, G i j = G j i) (hd : Definite ε G) (k : ℕ) :
    0 < schur G k k k := by
  have h := schur_definite hε hG hd k (k + 1) (fun _ => 1) (by omega)
  simp at h
  linarith

/-- A Gram matrix with `ε` added on the diagonal. -/
def gram {ι : Type} [Fintype ι] (ε : ℝ) (a : ℕ → ι → ℝ) (i j : ℕ) : ℝ := ∑ c, a i c * a j c + if i = j then ε else 0

/-- A Gram matrix is symmetric. -/
theorem gram_symm {ι : Type} [Fintype ι] (ε : ℝ) (a : ℕ → ι → ℝ) (i j : ℕ) : gram ε a i j = gram ε a j i := by
  unfold gram
  congr 1
  · exact sum_congr rfl fun c _ => mul_comm _ _
  · exact if_congr eq_comm rfl rfl

/-- It is at least `ε` times the identity. -/
theorem gram_definite {ι : Type} [Fintype ι] (ε : ℝ) (a : ℕ → ι → ℝ) : Definite ε (gram ε a) := by
  intro N x
  have h : ∑ i ∈ range N, ∑ j ∈ range N, gram ε a i j * x i * x j
      = ∑ c, (∑ i ∈ range N, a i c * x i) ^ 2 + ε * ∑ i ∈ range N, x i ^ 2 := by
    simp only [gram, add_mul, sum_add_distrib]
    congr 1
    · simp only [sum_mul, pow_two, sum_mul_sum]
      rw [sum_comm (s := univ)]
      refine sum_congr rfl fun i _ => ?_
      simp only [mul_sum]
      rw [sum_comm (s := univ)]
      exact sum_congr rfl fun j _ => sum_congr rfl fun c _ => by ring
    · rw [mul_sum]
      refine sum_congr rfl fun i hi => ?_
      rw [sum_eq_single i]
      · rw [if_pos rfl]; ring
      · intro j _ hj; rw [if_neg (Ne.symm hj)]; ring
      · intro h; exact absurd hi h
  rw [h]
  have : 0 ≤ ∑ c, (∑ i ∈ range N, a i c * x i) ^ 2 := sum_nonneg fun c _ => sq_nonneg _
  linarith

/-- The pivots of a Gram matrix with a positive number on the diagonal are positive. -/
theorem gram_pivot_pos {ι : Type} [Fintype ι] {ε : ℝ} (hε : 0 < ε) (a : ℕ → ι → ℝ) (k : ℕ) :
    0 < schur (gram ε a) k k k :=
  pivot_pos hε (gram_symm ε a) (gram_definite ε a) k

end Cert.Omp

end
-- ==== Proof.Solve.lean ====
/- The system of one signal, solved twice: by elimination and back substitution (the reference), and by a Cholesky
   factor (the kernel). The matrix is real with positive pivots; the right-hand side is any extended real. -/
module

public import Idealize.ShloMosaic.PureOps.Ideal
public import proofs.«01_k».proof.Proof.Elim

@[expose] public section

noncomputable section

namespace Cert.Omp

open Finset Idealize.ShloMosaic

/-- The right-hand side after eliminating the first `k` unknowns. -/
def rhs (G : ℕ → ℕ → ℝ) (b : ℕ → EReal) : ℕ → ℕ → EReal
  | 0 => b
  | k + 1 => fun i => rhs G b k i - ((schur G k i k / schur G k k k : ℝ) : EReal) * rhs G b k k

/-- The entry of the Cholesky factor below the diagonal. -/
def chol (G : ℕ → ℕ → ℝ) (i j : ℕ) : ℝ := schur G j i j * (1 / √(schur G j j j))

/-- The reciprocal of the Cholesky factor's diagonal entry. -/
def rdiag (G : ℕ → ℕ → ℝ) (j : ℕ) : ℝ := 1 / √(schur G j j j)

/-- Unknown `i` of the leading system of `n` unknowns, by back substitution. -/
def unknown (G : ℕ → ℕ → ℝ) (b : ℕ → EReal) (n i : ℕ) : EReal :=
  (rhs G b i i + ∑ j : Fin (n - (i + 1)), -((schur G i i (i + 1 + j) : EReal) * unknown G b n (i + 1 + j)))
    * ((schur G i i i)⁻¹ : ℝ)
termination_by n - i
decreasing_by omega

/-- Division of extended reals by a positive real. -/
theorem div_pos_real {d : ℝ} (hd : 0 < d) (x : EReal) : Ideal.div x (d : EReal) = x * (d⁻¹ : ℝ) := by
  have : (d : EReal) ≠ 0 := by exact_mod_cast hd.ne'
  rw [Ideal.div, if_neg this, ← EReal.coe_inv]

/-- Division of a real by a positive real. -/
theorem div_real {d : ℝ} (hd : 0 < d) (x : ℝ) : Ideal.div (x : EReal) (d : EReal) = ((x / d : ℝ) : EReal) := by
  rw [div_pos_real hd, ← EReal.coe_mul, div_eq_mul_inv]

/-- Square root of a nonnegative real. -/
theorem sqrt_real {d : ℝ} (hd : 0 ≤ d) : Ideal.sqrt (d : EReal) = (√d : ℝ) := by
  show (if d < 0 then ⊥ else ((√d : ℝ) : EReal)) = _
  rw [if_neg (not_lt.mpr hd)]

section
variable {G : ℕ → ℕ → ℝ} (hG : ∀ i j, G i j = G j i) (hp : ∀ k, 0 < schur G k k k) (b : ℕ → EReal)
include hp

/-- The kernel's reciprocal of the square root of a pivot. -/
theorem rdiag_eq (k : ℕ) : Ideal.div 1 (Ideal.sqrt (schur G k k k : EReal)) = (rdiag G k : EReal) := by
  rw [sqrt_real (hp k).le, ← EReal.coe_one, div_real (Real.sqrt_pos.mpr (hp k))]; rfl

omit hp in
/-- The kernel's entry of the factor. -/
theorem chol_eq (i j : ℕ) : (schur G j i j : EReal) * (rdiag G j : EReal) = (chol G i j : EReal) := by
  rw [← EReal.coe_mul]; rfl

include hG in
/-- One term of the kernel's sum for an entry of the factor is one step of elimination. -/
theorem chol_step (k i j : ℕ) : (schur G k i j : EReal) - (chol G i k : EReal) * (chol G j k : EReal)
    = (schur G (k + 1) i j : EReal) := by
  rw [← EReal.coe_mul, ← EReal.coe_sub]
  congr 1
  simp only [schur, chol]
  rw [schur_symm hG k k j]
  have h := Real.mul_self_sqrt (hp k).le
  have h0 : √(schur G k k k) ≠ 0 := (Real.sqrt_pos.mpr (hp k)).ne'
  have : (1 / √(schur G k k k)) * (1 / √(schur G k k k)) = 1 / schur G k k k := by
    rw [div_mul_div_comm, h, one_mul]
  calc _ = schur G k i j - schur G k i k * schur G k j k * ((1 / √(schur G k k k)) * (1 / √(schur G k k k))) := by ring
    _ = _ := by rw [this]; ring

/-- One term of the kernel's forward substitution is one step of elimination on the right-hand side. -/
theorem rhs_step (k i : ℕ) : rhs G b k i - (chol G i k : EReal) * (rhs G b k k * (rdiag G k : EReal))
    = rhs G b (k + 1) i := by
  simp only [rhs]
  congr 1
  rw [mul_comm (rhs G b k k), ← mul_assoc, ← EReal.coe_mul]
  congr 2
  have h := Real.mul_self_sqrt (hp k).le
  have : (1 / √(schur G k k k)) * (1 / √(schur G k k k)) = 1 / schur G k k k := by
    rw [div_mul_div_comm, h, one_mul]
  simp only [chol, rdiag]
  rw [mul_assoc, this]; ring

omit hp in
/-- A positive real factor distributes over a difference of extended reals. -/
theorem sub_mul_real {v : ℝ} (hv : 0 ≤ v) (x y : EReal) : (x - y) * (v : EReal) = x * v - y * v := by
  rw [sub_eq_add_neg, sub_eq_add_neg, EReal.right_distrib_of_nonneg_of_ne_top (by exact_mod_cast hv) (EReal.coe_ne_top v),
    EReal.neg_mul]

include hG in
/-- One term of the kernel's back substitution. -/
theorem back_step (i j : ℕ) (p w : EReal) :
    p * (rdiag G i : EReal) - (chol G j i : EReal) * w = (p - (schur G i i j : EReal) * w) * (rdiag G i : EReal) := by
  have hv : (0 : ℝ) ≤ rdiag G i := by unfold rdiag; positivity
  rw [sub_mul_real hv]
  congr 1
  rw [← chol_eq, schur_symm hG i j i, mul_assoc, mul_assoc, mul_comm w]

/-- The kernel divides by the diagonal entry twice: by the pivot. -/
theorem back_last (i : ℕ) (p : EReal) : p * (rdiag G i : EReal) * (rdiag G i : EReal) = p * ((schur G i i i)⁻¹ : ℝ) := by
  rw [mul_assoc, ← EReal.coe_mul]
  congr 2
  have h := Real.mul_self_sqrt (hp i).le
  unfold rdiag
  rw [div_mul_div_comm, h, one_mul, one_div]

/-- The reference's multiplier. -/
theorem mult_eq (k i : ℕ) : Ideal.div (schur G k i k : EReal) (schur G k k k : EReal)
    = ((schur G k i k / schur G k k k : ℝ) : EReal) := div_real (hp k) _

omit hp in
/-- The reference's step on the matrix. -/
theorem elim_step (k i j : ℕ) : (schur G k i j : EReal) - ((schur G k i k / schur G k k k : ℝ) : EReal) * (schur G k k j : EReal)
    = (schur G (k + 1) i j : EReal) := by
  rw [← EReal.coe_mul, ← EReal.coe_sub]; rfl

omit hp in
/-- The reference's step on the right-hand side. -/
theorem elim_rhs (k i : ℕ) : rhs G b k i - ((schur G k i k / schur G k k k : ℝ) : EReal) * rhs G b k k = rhs G b (k + 1) i :=
  rfl

omit hp in
/-- Back substitution as successive subtractions. -/
theorem unknown_eq (n i : ℕ) : unknown G b n i
    = (List.range (n - (i + 1))).foldl (fun p j => p - (schur G i i (i + 1 + j) : EReal) * unknown G b n (i + 1 + j))
        (rhs G b i i) * ((schur G i i i)⁻¹ : ℝ) := by
  have key : ∀ (m : ℕ) (f : ℕ → EReal) (a : EReal),
      a + ∑ j : Fin m, -(f j) = (List.range m).foldl (fun p j => p - f j) a := by
    intro m f a
    induction m with
    | zero => simp
    | succ m ih =>
      rw [Fin.sum_univ_castSucc, List.range_succ, List.foldl_append, ← add_assoc]
      simp only [Fin.val_castSucc, List.foldl_cons, List.foldl_nil, Fin.val_last]
      rw [ih, sub_eq_add_neg]
  rw [unknown, key _ (fun j => (schur G i i (i + 1 + j) : EReal) * unknown G b n (i + 1 + j))]

omit hp in
/-- The last unknown. -/
theorem unknown_0 (i : ℕ) : unknown G b (i + 1) i = rhs G b i i * ((schur G i i i)⁻¹ : ℝ) := by
  rw [unknown_eq, show i + 1 - (i + 1) = 0 by omega]; rfl

omit hp in
/-- An unknown with one more after it. -/
theorem unknown_1 (i : ℕ) : unknown G b (i + 2) i
    = (rhs G b i i - (schur G i i (i + 1) : EReal) * unknown G b (i + 2) (i + 1)) * ((schur G i i i)⁻¹ : ℝ) := by
  rw [unknown_eq, show i + 2 - (i + 1) = 1 by omega]; rfl

omit hp in
/-- An unknown with two more after it. -/
theorem unknown_2 (i : ℕ) : unknown G b (i + 3) i
    = (rhs G b i i - (schur G i i (i + 1) : EReal) * unknown G b (i + 3) (i + 1)
        - (schur G i i (i + 2) : EReal) * unknown G b (i + 3) (i + 2)) * ((schur G i i i)⁻¹ : ℝ) := by
  rw [unknown_eq, show i + 3 - (i + 1) = 2 by omega]; rfl

omit hp in
/-- An unknown with three more after it. -/
theorem unknown_3 (i : ℕ) : unknown G b (i + 4) i
    = (rhs G b i i - (schur G i i (i + 1) : EReal) * unknown G b (i + 4) (i + 1)
        - (schur G i i (i + 2) : EReal) * unknown G b (i + 4) (i + 2)
        - (schur G i i (i + 3) : EReal) * unknown G b (i + 4) (i + 3)) * ((schur G i i i)⁻¹ : ℝ) := by
  rw [unknown_eq, show i + 4 - (i + 1) = 3 by omega]; rfl

omit hp in
/-- An unknown with four more after it. -/
theorem unknown_4 (i : ℕ) : unknown G b (i + 5) i
    = (rhs G b i i - (schur G i i (i + 1) : EReal) * unknown G b (i + 5) (i + 1)
        - (schur G i i (i + 2) : EReal) * unknown G b (i + 5) (i + 2)
        - (schur G i i (i + 3) : EReal) * unknown G b (i + 5) (i + 3)
        - (schur G i i (i + 4) : EReal) * unknown G b (i + 5) (i + 4)) * ((schur G i i i)⁻¹ : ℝ) := by
  rw [unknown_eq, show i + 5 - (i + 1) = 4 by omega]; rfl

/-- Division by a pivot. -/
theorem div_pivot (i : ℕ) (p : EReal) : Ideal.div p (schur G i i i : EReal) = p * ((schur G i i i)⁻¹ : ℝ) :=
  div_pos_real (hp i) p

end

/-- Elimination on the first `n` unknowns looks at nothing else of the matrix. -/
theorem schur_congr {G G' : ℕ → ℕ → ℝ} {n : ℕ} (h : ∀ i j, i < n → j < n → G i j = G' i j) (k : ℕ) :
    ∀ i j, k ≤ n → i < n → j < n → schur G k i j = schur G' k i j := by
  induction k with
  | zero => intro i j _; exact h i j
  | succ k ih =>
    intro i j hk hi hj
    simp only [schur]
    rw [ih i j (by omega) hi hj, ih i k (by omega) hi (by omega), ih k k (by omega) (by omega) (by omega),
      ih k j (by omega) (by omega) hj]

/-- Nor of the right-hand side. -/
theorem rhs_congr {G G' : ℕ → ℕ → ℝ} {b b' : ℕ → EReal} {n : ℕ} (h : ∀ i j, i < n → j < n → G i j = G' i j)
    (hb : ∀ i, i < n → b i = b' i) (k : ℕ) : ∀ i, k ≤ n → i < n → rhs G b k i = rhs G' b' k i := by
  induction k with
  | zero => intro i _; exact hb i
  | succ k ih =>
    intro i hk hi
    simp only [rhs]
    rw [ih i (by omega) hi, ih k (by omega) (by omega), schur_congr h k i k (by omega) hi (by omega),
      schur_congr h k k k (by omega) (by omega) (by omega)]

/-- Nor do the unknowns. -/
theorem unknown_congr {G G' : ℕ → ℕ → ℝ} {b b' : ℕ → EReal} {n : ℕ} (h : ∀ i j, i < n → j < n → G i j = G' i j)
    (hb : ∀ i, i < n → b i = b' i) (m : ℕ) : ∀ i, n = i + 1 + m → unknown G b n i = unknown G' b' n i := by
  induction m using Nat.strong_induction_on with
  | _ m ih =>
    intro i hi
    rw [unknown, unknown, rhs_congr h hb i i (by omega) (by omega), schur_congr h i i i (by omega) (by omega) (by omega)]
    congr 2
    refine sum_congr rfl fun j _ => ?_
    have hj := j.isLt
    rw [schur_congr h i i (i + 1 + j) (by omega) (by omega) (by omega), ih (m - 1 - j) (by omega) (i + 1 + j) (by omega)]

end Cert.Omp

end
-- ==== Proof.Greedy.lean ====
/- Orthogonal matching pursuit of one signal: what both programs compute. A dictionary of 512 real atoms of dimension 64,
   a signal of extended reals; each round picks the first atom of the largest correlation with the residual among those
   not yet picked, and refits the weights of all picked atoms by the regularized normal equations. -/
module

public import Idealize.ShloMosaic.PureOps.Ideal
public import proofs.«01_k».proof.Proof.Solve

@[expose] public section

noncomputable section

namespace Cert.Omp

open Finset Idealize.ShloMosaic

/-! ### The first largest entry -/

/-- `p` is the first place of the largest entry of `a`. -/
def IsFirstMax (a : Fin 512 → EReal) (p : Fin 512) : Prop := (∀ n, a n ≤ a p) ∧ ∀ n, n < p → a n < a p

/-- Among 512 scores one is the first largest. -/
theorem exists_first_max (a : Fin 512 → EReal) : ∃ p, IsFirstMax a p := by
  obtain ⟨m, -, hm⟩ := exists_max_image univ a ⟨0, mem_univ _⟩
  obtain ⟨p, hp, hmin⟩ := exists_min_image (univ.filter fun n => a n = a m) id ⟨m, by simp⟩
  have hp' : a p = a m := (mem_filter.mp hp).2
  refine ⟨p, fun n => hp' ▸ hm n (mem_univ n), fun n hn => lt_of_le_of_ne (hp' ▸ hm n (mem_univ n)) fun h => ?_⟩
  have := hmin n (mem_filter.mpr ⟨mem_univ n, h.trans hp'⟩)
  exact absurd hn (not_lt.mpr this)

/-- The first place of the largest entry. -/
def firstMax (a : Fin 512 → EReal) : Fin 512 := Classical.choose (exists_first_max a)

/-- The chosen place is a first largest one. -/
theorem firstMax_spec (a : Fin 512 → EReal) : IsFirstMax a (firstMax a) := Classical.choose_spec (exists_first_max a)

/-- The first largest place is unique. -/
theorem firstMax_eq {a : Fin 512 → EReal} {p : Fin 512} (h : IsFirstMax a p) : firstMax a = p := by
  have h' := firstMax_spec a
  rcases lt_trichotomy (firstMax a) p with hlt | he | hlt
  · exact absurd (h.2 _ hlt) (not_lt.mpr (h'.1 p))
  · exact he
  · exact absurd (h'.2 _ hlt) (not_lt.mpr (h.1 _))

/-- Entries that are masked: the value put in their place does not matter, as long as it is below every other one and
    something is left. -/
theorem firstMax_mask {s : Fin 512 → EReal} (hs : ∀ n, 0 ≤ s n) (used : Fin 512 → Prop) [DecidablePred used]
    (hu : ∃ n, ¬ used n) {lo lo' : EReal} (h : lo < 0) (h' : lo' < 0) :
    firstMax (fun n => if used n then lo else s n) = firstMax (fun n => if used n then lo' else s n) := by
  obtain ⟨p, hp⟩ : ∃ p, p = firstMax (fun n => if used n then lo' else s n) := ⟨_, rfl⟩
  have hs' := firstMax_spec (fun n => if used n then lo' else s n)
  rw [← hp] at hs' ⊢
  obtain ⟨u, hu⟩ := hu
  have hpu : ¬ used p := by
    intro hc
    have := hs'.1 u
    simp only [if_neg hu, if_pos hc] at this
    exact absurd ((hs u).trans this) (not_le.mpr h')
  apply firstMax_eq
  refine ⟨fun n => ?_, fun n hn => ?_⟩
  · have := hs'.1 n
    simp only [if_neg hpu] at this ⊢
    by_cases hn : used n
    · rw [if_pos hn]; exact h.le.trans (hs p)
    · rwa [if_neg hn] at this ⊢
  · have := hs'.2 n hn
    simp only [if_neg hpu] at this ⊢
    by_cases hn : used n
    · rw [if_pos hn]; exact lt_of_lt_of_le h (hs p)
    · rwa [if_neg hn] at this ⊢

/-- An entry above a masked one is the one found. -/
theorem firstMax_unused {s : Fin 512 → EReal} (hs : ∀ n, 0 ≤ s n) (used : Fin 512 → Prop) [DecidablePred used]
    (hu : ∃ n, ¬ used n) {lo : EReal} (h : lo < 0) : ¬ used (firstMax (fun n => if used n then lo else s n)) := by
  intro hc
  obtain ⟨u, hu⟩ := hu
  have := (firstMax_spec (fun n => if used n then lo else s n)).1 u
  simp only [if_neg hu, if_pos hc] at this
  exact absurd ((hs u).trans this) (not_le.mpr h)

/-- The score of a used atom in the kernel is negative. -/
theorem negOne_lt : (-1 : EReal) < 0 := by
  rw [← EReal.coe_one, ← EReal.coe_neg]
  exact_mod_cast (by norm_num : (-1 : ℝ) < 0)

/-! ### The constants and the normalized dictionary -/

/-- The number added to a norm before dividing by it. -/
def normEps : EReal := Ideal.ofBits .f32 0x2EDBE6FF#32

/-- The number added to the diagonal of the Gram matrix. -/
def diagEps : ℝ := (Ideal.ofBits .f32 0x3727C5AC#32).toReal

/-- The constant added to a norm is a positive real. -/
theorem normEps_pos : ∃ r : ℝ, 0 < r ∧ normEps = (r : EReal) := by
  refine ⟨_, ?_, by unfold normEps; simp [Ideal.ofBits, Ideal.ieee, -EReal.coe_mul]; rfl⟩
  norm_num

/-- The word of the constant added to the diagonal stands for that real. -/
theorem diagEps_coe : Ideal.ofBits .f32 0x3727C5AC#32 = (diagEps : EReal) := by
  unfold diagEps
  simp [Ideal.ofBits, Ideal.ieee, -EReal.coe_mul]

/-- The constant added to the diagonal is positive. -/
theorem diagEps_pos : 0 < diagEps := by
  unfold diagEps
  simp [Ideal.ofBits, Ideal.ieee, -EReal.coe_mul]

/-- An entry of the normalized dictionary, as the programs divide. -/
def unitE (d : Fin 64 → Fin 512 → EReal) (c : Fin 64) (n : Fin 512) : EReal :=
  Ideal.div (d c n) (Ideal.sqrt (∑ c', d c' n * d c' n) + normEps)

/-- The same entry as a real number. -/
def unit (d : Fin 64 → Fin 512 → EReal) (c : Fin 64) (n : Fin 512) : ℝ := (unitE d c n).toReal

/-- A square is not negative. -/
theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

/-- A normalized entry is a real number, whatever the dictionary holds. -/
theorem unitE_coe (d : Fin 64 → Fin 512 → EReal) (c : Fin 64) (n : Fin 512) : unitE d c n = (unit d c n : EReal) := by
  have key : ∃ r : ℝ, unitE d c n = (r : EReal) := by
    obtain ⟨e, he, hE⟩ := normEps_pos
    unfold unitE
    rw [hE]
    obtain ⟨S, hS⟩ : ∃ S, S = ∑ c', d c' n * d c' n := ⟨_, rfl⟩
    have hle : d c n * d c n ≤ S := by
      rw [hS]; exact single_le_sum (f := fun c' => d c' n * d c' n) (fun i _ => mul_self_nonneg' _) (mem_univ c)
    have h0 : 0 ≤ S := (mul_self_nonneg' _).trans hle
    rw [← hS]
    induction S with
    | bot => exact absurd h0 (by simp)
    | top =>
      refine ⟨0, ?_⟩
      show Ideal.div (d c n) (⊤ + (e : EReal)) = _
      rw [EReal.top_add_coe, Ideal.div, if_neg (by simp)]; simp
    | coe r =>
      have hr : 0 ≤ r := by exact_mod_cast h0
      rw [sqrt_real hr, ← EReal.coe_add]
      have hpos : 0 < √r + e := by positivity
      generalize d c n = y at hle ⊢
      induction y with
      | bot => exact absurd hle (by simp)
      | top => exact absurd hle (by simp)
      | coe x => exact ⟨_, div_real hpos x⟩
  obtain ⟨r, hr⟩ := key
  rw [unit, hr, EReal.toReal_coe]

/-! ### The pursuit -/

section
variable (D : Fin 64 → Fin 512 → ℝ) (X : Fin 64 → EReal)

/-- The regularized Gram matrix of the picked atoms. -/
def gramOf (idx : ℕ → Fin 512) : ℕ → ℕ → ℝ := gram diagEps fun i c => D c (idx i)

/-- A picked atom's product with the signal. -/
def proj (idx : ℕ → Fin 512) (i : ℕ) : EReal := ∑ c, (D c (idx i) : EReal) * X c

/-- The weight of atom `i` among the first `n`. -/
def weight (idx : ℕ → Fin 512) (n i : ℕ) : EReal := unknown (gramOf D idx) (proj D X idx) n i

/-- The signal rebuilt from the first `n` atoms. -/
def recon (idx : ℕ → Fin 512) (n : ℕ) (c : Fin 64) : EReal := ∑ i ∈ range n, weight D X idx n i * (D c (idx i) : EReal)

/-- The size of an atom's correlation with the residual after `n` rounds. -/
def corr (idx : ℕ → Fin 512) (n : ℕ) (a : Fin 512) : EReal :=
  max (∑ c, (D c a : EReal) * (X c - recon D X idx n c)) (-∑ c, (D c a : EReal) * (X c - recon D X idx n c))

/-- Atom `a` is one of the first `n` picked. -/
def Used (idx : ℕ → Fin 512) (n : ℕ) (a : Fin 512) : Prop := ∃ i, i < n ∧ a = idx i

instance (idx : ℕ → Fin 512) (n : ℕ) : DecidablePred (Used idx n) := fun _ => Classical.propDecidable _

/-- The correlations with those of the atoms already picked put below all others. -/
def masked (lo : EReal) (idx : ℕ → Fin 512) (n : ℕ) (a : Fin 512) : EReal := if Used idx n a then lo else corr D X idx n a

/-- The atoms picked in `n` rounds. -/
def picks : ℕ → ℕ → Fin 512
  | 0 => fun _ => 0
  | n + 1 => Function.update (picks n) n (firstMax (masked D X (-1) (picks n) n))

/-- The atom picked in round `n`. -/
def atom (n : ℕ) : Fin 512 := picks D X (n + 1) n

variable {D X}

/-- The picked atoms' Gram matrix is symmetric. -/
theorem gramOf_symm (idx : ℕ → Fin 512) : ∀ i j, gramOf D idx i j = gramOf D idx j i := gram_symm _ _

/-- The pivots of the picked atoms' Gram matrix are positive. -/
theorem gramOf_pos (idx : ℕ → Fin 512) : ∀ k, 0 < schur (gramOf D idx) k k k := gram_pivot_pos diagEps_pos _

/-- A reconstruction from `n` atoms depends on the first `n` picks alone. -/
theorem recon_congr {idx idx' : ℕ → Fin 512} {n : ℕ} (h : ∀ i, i < n → idx i = idx' i) :
    recon D X idx n = recon D X idx' n := by
  funext c
  refine sum_congr rfl fun i hi => ?_
  rw [mem_range] at hi
  unfold weight
  rw [h i hi, unknown_congr (n := n) (m := n - (i + 1)) ?_ ?_ i (by omega)]
  · intro i j hi hj; simp only [gramOf, gram, h i hi, h j hj]
  · intro i hi; simp only [proj, h i hi]

/-- The scores after `n` rounds depend on the first `n` picks alone. -/
theorem masked_congr (lo : EReal) {idx idx' : ℕ → Fin 512} {n : ℕ} (h : ∀ i, i < n → idx i = idx' i) :
    masked D X lo idx n = masked D X lo idx' n := by
  funext a
  have hu : Used idx n a ↔ Used idx' n a :=
    ⟨fun ⟨i, hi, he⟩ => ⟨i, hi, he.trans (h i hi)⟩, fun ⟨i, hi, he⟩ => ⟨i, hi, he.trans (h i hi).symm⟩⟩
  unfold masked corr
  rw [recon_congr h]
  by_cases hc : Used idx n a
  · rw [if_pos hc, if_pos (hu.mp hc)]
  · rw [if_neg hc, if_neg (fun h => hc (hu.mpr h))]

/-- The first `n` picks are the atoms of those rounds. -/
theorem picks_eq (n : ℕ) : ∀ i, i < n → picks D X n i = atom D X i := by
  induction n with
  | zero => intro i hi; omega
  | succ n ih =>
    intro i hi
    by_cases h : i = n
    · subst h; rfl
    · rw [picks, Function.update_of_ne h, ih i (by omega)]

/-- Each round picks the first largest correlation among the atoms left. -/
theorem atom_eq (n : ℕ) : atom D X n = firstMax (masked D X (-1) (atom D X) n) := by
  rw [atom, picks, Function.update_self, masked_congr _ (picks_eq n)]

/-- A correlation's size is not negative. -/
theorem corr_nonneg (idx : ℕ → Fin 512) (n : ℕ) (a : Fin 512) : 0 ≤ corr D X idx n a := by
  unfold corr
  generalize (∑ c, (D c a : EReal) * (X c - recon D X idx n c)) = x
  rcases le_total 0 x with h | h
  · exact h.trans (le_max_left _ _)
  · exact (EReal.neg_nonneg.mpr h).trans (le_max_right _ _)

/-- Before round 512 some atom is unused. -/
theorem exists_unused (idx : ℕ → Fin 512) {n : ℕ} (hn : n < 512) : ∃ a, ¬ Used idx n a := by
  by_contra hc
  push Not at hc
  have hsub : (univ : Finset (Fin 512)) ⊆ (range n).image idx := by
    intro a _
    obtain ⟨i, hi, he⟩ := hc a
    exact mem_image.mpr ⟨i, mem_range.mpr hi, he.symm⟩
  have := (card_le_card hsub).trans card_image_le
  simp at this
  omega

/-- The same pick under any mask below zero. -/
theorem atom_eq_mask {n : ℕ} (hn : n < 512) {lo : EReal} (h : lo < 0) :
    firstMax (masked D X lo (atom D X) n) = atom D X n := by
  rw [atom_eq n]
  exact firstMax_mask (corr_nonneg _ n) (Used _ n) (exists_unused _ hn) h negOne_lt

/-- The atom a round picks was not used before. -/
theorem atom_unused {n : ℕ} (hn : n < 512) : ¬ Used (atom D X) n (atom D X n) := by
  have h := firstMax_unused (corr_nonneg (D := D) (X := X) (atom D X) n) (Used (atom D X) n) (exists_unused _ hn)
    (lo := -1) negOne_lt
  rw [atom_eq n]
  exact h

/-- No atom is picked twice. -/
theorem atom_inj {i j : ℕ} (hi : i < 512) (hj : j < 512) (h : atom D X i = atom D X j) : i = j := by
  rcases lt_trichotomy i j with hlt | he | hlt
  · exact absurd ⟨i, hlt, h.symm⟩ (atom_unused hj)
  · exact he
  · exact absurd ⟨j, hlt, h⟩ (atom_unused hi)

/-- Placing the weights in a vector over the whole dictionary and multiplying by it rebuilds the same signal. -/
theorem recon_eq_sum {n : ℕ} (hn : n ≤ 512) (w : ℕ → EReal) (c : Fin 64) :
    ∑ a, (∑ i ∈ range n, w i * (if a = atom D X i then 1 else 0)) * (D c a : EReal)
      = ∑ i ∈ range n, w i * (D c (atom D X i) : EReal) := by
  have h : ∀ a, (∑ i ∈ range n, w i * (if a = atom D X i then 1 else 0)) * (D c a : EReal)
      = ∑ i ∈ range n, if a = atom D X i then w i * (D c a : EReal) else 0 := by
    intro a
    by_cases hu : ∃ i ∈ range n, a = atom D X i
    · obtain ⟨i, hi, he⟩ := hu
      have hne : ∀ j ∈ range n, j ≠ i → a ≠ atom D X j := by
        intro j hj hji hc
        rw [mem_range] at hi hj
        exact hji (atom_inj (by omega) (by omega) (hc.symm.trans he))
      rw [sum_eq_single_of_mem i hi fun j hj hji => by rw [if_neg (hne j hj hji), mul_zero],
        sum_eq_single_of_mem i hi fun j hj hji => by rw [if_neg (hne j hj hji)], if_pos he, if_pos he, mul_one]
    · have hne : ∀ i ∈ range n, a ≠ atom D X i := fun i hi he => hu ⟨i, hi, he⟩
      rw [sum_eq_zero fun i hi => by rw [if_neg (hne i hi), mul_zero], sum_eq_zero fun i hi => by rw [if_neg (hne i hi)],
        zero_mul]
  rw [sum_congr rfl fun a _ => h a, sum_comm]
  refine sum_congr rfl fun i _ => ?_
  rw [sum_ite_eq' univ (atom D X i)]
  simp

end

end Cert.Omp

end
-- ==== Proof.Pick.lean ====
/- How the kernel picks an atom: the least index among those holding the largest entry, compared with every index. Also the
   Gram entries and products with the signal as the sums the kernel takes. -/
module

public import Idealize.ShloMosaic.PureOps.Ideal
public import Idealize.ShloMosaic.PureOps.Reduce
public import Idealize.ShloMosaic.Lib.ValueIdx
public import proofs.«01_k».proof.Proof.Greedy

@[expose] public section

noncomputable section

namespace Cert.Omp

open Finset Idealize.ShloMosaic

/-- The word of the kernel's mark stands for -1. -/
theorem ofBits_negOne : Ideal.ofBits .f32 3212836864#32 = -1 := by
  simp [Ideal.ofBits, Ideal.ieee, -EReal.coe_mul]
  norm_num

/-- The word of the reference's mark stands for minus infinity. -/
theorem ofBits_bot : Ideal.ofBits .f32 4286578688#32 = ⊥ := by
  simp [Ideal.ofBits, Ideal.ieee, -EReal.coe_mul]

/-- The largest entry, taken as a fold. -/
theorem fold_max_eq (a : Fin 512 → EReal) : Finset.fold max (⊥ : EReal) a univ = a (firstMax a) := by
  refine le_antisymm ?_ ?_
  · rw [Finset.fold_max_le]
    exact ⟨bot_le, fun x _ => (firstMax_spec a).1 x⟩
  · rw [Finset.le_fold_max]
    exact Or.inr ⟨_, mem_univ _, le_rfl⟩

/-- A small number's word, read as a signed integer, is the number. -/
theorem toInt_small {n : ℕ} (h : n ≤ 512) : (BitVec.ofNat 32 n).toInt = n := by
  rw [BitVec.toInt_eq_toNat_of_lt] <;> rw [BitVec.toNat_ofNat, Nat.mod_eq_of_lt] <;> omega

/-- The smaller word is the minimum. -/
theorem minsi_left {x y : BitVec 32} (h : x.toInt < y.toInt) : IntOp.minsi x y = x := by
  unfold IntOp.minsi
  rw [if_pos (by simpa [BitVec.slt] using h)]

/-- The minimum of a word and itself is the word. -/
theorem minsi_self (x : BitVec 32) : IntOp.minsi x x = x := by
  unfold IntOp.minsi; split <;> rfl

/-- A fold of minima is the entry below all the others. -/
theorem fold_minsi_eq {f : Fin 512 → BitVec 32} {b : BitVec 32} (p : Fin 512) (hb : (f p).toInt < b.toInt)
    (h : ∀ x, x ≠ p → (f p).toInt < (f x).toInt) : Finset.fold IntOp.minsi b f univ = f p := by
  have key : ∀ s : Finset (Fin 512), p ∉ s → IntOp.minsi (f p) (Finset.fold IntOp.minsi b f s) = f p := by
    intro s
    induction s using Finset.induction_on with
    | empty => intro _; rw [Finset.fold_empty]; exact minsi_left hb
    | insert x s hx ih =>
      intro hp
      rw [Finset.fold_insert hx, ← Std.Associative.assoc (op := IntOp.minsi),
        minsi_left (h x fun he => hp (he ▸ mem_insert_self _ _))]
      exact ih fun hs => hp (mem_insert_of_mem hs)
  rw [← Finset.insert_erase (mem_univ p), Finset.fold_insert (notMem_erase p univ)]
  exact key _ (notMem_erase p univ)

/-- The kernel's pick: the least index among the largest entries is the first of the largest entries. -/
theorem pick_word (a : Fin 512 → EReal) :
    Finset.fold IntOp.minsi 2147483647#32 (fun x => if a x = Finset.fold max (Ideal.ofBits .f32 4286578688#32) a univ
      then BitVec.ofNat 32 x.val else 512#32) univ = BitVec.ofNat 32 (firstMax a).val := by
  rw [ofBits_bot, fold_max_eq]
  have hp := firstMax_spec a
  have h2 : (firstMax a).val < 512 := (firstMax a).isLt
  rw [fold_minsi_eq (firstMax a), if_pos rfl]
  · rw [if_pos rfl, toInt_small (by omega)]
    have : (2147483647#32 : BitVec 32).toInt = 2147483647 := by decide
    omega
  · intro x hx
    have hx2 := x.isLt
    rw [if_pos rfl, toInt_small (by omega)]
    split
    · rename_i he
      rw [toInt_small (by omega)]
      have : ¬ x < firstMax a := fun hlt => absurd (hp.2 x hlt) (by rw [he]; exact lt_irrefl _)
      have h3 : x.val ≠ (firstMax a).val := fun hv => hx (Fin.ext hv)
      rw [Fin.lt_def] at this
      omega
    · rw [show (512#32 : BitVec 32) = BitVec.ofNat 32 512 from rfl, toInt_small le_rfl]
      omega

/-- Comparing an index with the picked one. -/
theorem cmp_word (n p : Fin 512) :
    IntOp.cmpi .eq (BitVec.ofNat 32 n.val) (BitVec.ofNat 32 p.val) = if n = p then 1#1 else 0#1 := by
  unfold IntOp.cmpi
  by_cases h : n = p
  · subst h; simp
  · have hv : n.val ≠ p.val := fun hv => h (Fin.ext hv)
    have h1 := n.isLt
    have h2 := p.isLt
    have : BitVec.ofNat 32 n.val ≠ BitVec.ofNat 32 p.val := by
      intro he
      have := congrArg BitVec.toNat he
      rw [BitVec.toNat_ofNat, BitVec.toNat_ofNat, Nat.mod_eq_of_lt (by omega), Nat.mod_eq_of_lt (by omega)] at this
      exact hv this
    rw [if_neg h, beq_eq_false_iff_ne.mpr this]
    rfl

/-- The mark of the picked index as a number. -/
theorem mark_num (n p : Fin 512) :
    (FloatOps.sitofp (F := Ideal) .f32 (BitVec.setWidth 32 (if n = p then 1#1 else 0#1)) : EReal) = if n = p then 1 else 0 := by
  split
  · simp [FloatOps.sitofp]
  · simp [FloatOps.sitofp]

/-- Multiplying by the mark selects an entry. -/
theorem sum_mark (f : Fin 512 → ℝ) (p : Fin 512) :
    ∑ n, (f n : EReal) * (if n = p then 1 else 0) = (f p : EReal) := by
  simp

/-- Selecting by the bit of a proposition is the choice by the proposition. -/
theorem select_if (P : Prop) [Decidable P] (x y : EReal) : Scalar.select (if P then 1#1 else 0#1) x y = if P then x else y := by
  split <;> rfl

variable {D : Fin 64 → Fin 512 → ℝ} {X : Fin 64 → EReal} (idx : ℕ → Fin 512)

/-- A sum of reals, read as an extended real, is the sum of the terms so read. -/
theorem coe_sum (f : Fin 64 → ℝ) : ((∑ c, f c : ℝ) : EReal) = ∑ c, (f c : EReal) :=
  map_sum (⟨⟨Real.toEReal, EReal.coe_zero⟩, EReal.coe_add⟩ : ℝ →+ EReal) f univ

/-- A product of two different picked atoms. -/
theorem gram_off {i j : ℕ} (h : i ≠ j) :
    ∑ c, (D c (idx i) : EReal) * (D c (idx j) : EReal) = (schur (gramOf D idx) 0 i j : EReal) := by
  simp only [schur, gramOf, gram, if_neg h, add_zero]
  rw [coe_sum]
  exact sum_congr rfl fun c _ => (EReal.coe_mul _ _).symm

/-- A picked atom's product with itself and the number added to it. -/
theorem gram_diag (i : ℕ) : ∑ c, (D c (idx i) : EReal) * (D c (idx i) : EReal) + (diagEps : EReal)
    = (schur (gramOf D idx) 0 i i : EReal) := by
  simp only [schur, gramOf, gram, if_true]
  rw [EReal.coe_add, coe_sum]
  exact congrArg (· + _) (sum_congr rfl fun c _ => (EReal.coe_mul _ _).symm)

/-! ### One round of the kernel -/

/-- Before the first round nothing is rebuilt. -/
theorem recon_zero (D : Fin 64 → Fin 512 → ℝ) (X : Fin 64 → EReal) (c : Fin 64) : recon D X idx 0 c = 0 := by
  simp [recon]

/-- The index the kernel picks, from the marks of the atoms used and the signal rebuilt so far. -/
theorem round_word {k : ℕ} {S : Fin 512 → BitVec 1} {R : Fin 64 → EReal}
    (hS : ∀ n, S n = if Used (atom D X) k n then 1#1 else 0#1) (hR : ∀ c, R c = recon D X (atom D X) k c) :
    Finset.fold IntOp.minsi 2147483647#32 (fun x =>
      if Scalar.select (S x) (Ideal.ofBits .f32 3212836864#32 : EReal)
          (FloatOps.absf (F := Ideal) (φ := .f32) (∑ c, (D c x : EReal) * (X c - R c)))
        = Finset.fold max (Ideal.ofBits .f32 4286578688#32) (fun x =>
          Scalar.select (S x) (Ideal.ofBits .f32 3212836864#32 : EReal)
            (FloatOps.absf (F := Ideal) (φ := .f32) (∑ c, (D c x : EReal) * (X c - R c)))) univ
      then BitVec.ofNat 32 x.val else 512#32) univ = BitVec.ofNat 32 (atom D X k).val := by
  obtain rfl : S = fun n => if Used (atom D X) k n then 1#1 else 0#1 := funext hS
  obtain rfl : R = recon D X (atom D X) k := funext hR
  rw [atom_eq, ← pick_word]
  simp only [select_if, ofBits_negOne]
  rfl

/-- The index picked in the first round, where the signal itself is the residual. -/
theorem round_word_0 {S : Fin 512 → BitVec 1} (hS : ∀ n, S n = 0#1) :
    Finset.fold IntOp.minsi 2147483647#32 (fun x =>
      if Scalar.select (S x) (Ideal.ofBits .f32 3212836864#32 : EReal)
          (FloatOps.absf (F := Ideal) (φ := .f32) (∑ c, (D c x : EReal) * X c))
        = Finset.fold max (Ideal.ofBits .f32 4286578688#32) (fun x =>
          Scalar.select (S x) (Ideal.ofBits .f32 3212836864#32 : EReal)
            (FloatOps.absf (F := Ideal) (φ := .f32) (∑ c, (D c x : EReal) * X c))) univ
      then BitVec.ofNat 32 x.val else 512#32) univ = BitVec.ofNat 32 (atom D X 0).val := by
  have h := round_word (D := D) (X := X) (k := 0) (S := S) (R := fun _ => 0)
    (fun n => by rw [hS, if_neg (by rintro ⟨i, hi, -⟩; omega)]) (fun c => (recon_zero _ D X c).symm)
  simp only [sub_zero] at h
  exact h

/-- Marking the picked atom as used. -/
theorem used_step (k : ℕ) (n : Fin 512) :
    IntOp.ori (if Used idx k n then 1#1 else 0#1) (if n = idx k then 1#1 else 0#1) = if Used idx (k + 1) n then 1#1 else 0#1 := by
  have h : Used idx (k + 1) n ↔ Used idx k n ∨ n = idx k := by
    constructor
    · rintro ⟨i, hi, he⟩
      rcases Nat.lt_succ_iff_lt_or_eq.mp hi with h | h
      · exact Or.inl ⟨i, h, he⟩
      · exact Or.inr (h ▸ he)
    · rintro (⟨i, hi, he⟩ | he)
      · exact ⟨i, by omega, he⟩
      · exact ⟨k, by omega, he⟩
  by_cases h1 : Used idx k n <;> by_cases h2 : n = idx k
  · rw [if_pos h1, if_pos h2, if_pos (h.mpr (Or.inl h1))]; rfl
  · rw [if_pos h1, if_neg h2, if_pos (h.mpr (Or.inl h1))]; rfl
  · rw [if_neg h1, if_pos h2, if_pos (h.mpr (Or.inr h2))]; rfl
  · rw [if_neg h1, if_neg h2, if_neg fun hu => (h.mp hu).elim h1 h2]; rfl

/-- Marking the first atom as used. -/
theorem used_first (n : Fin 512) :
    IntOp.ori 0#1 (if n = idx 0 then 1#1 else 0#1) = if Used idx 1 n then 1#1 else 0#1 := by
  rw [← used_step, if_neg (c := Used idx 0 n) (by rintro ⟨i, hi, -⟩; omega)]

/-- The kernel's reciprocal of a diagonal entry of the factor. -/
theorem r_eq (k : ℕ) : Ideal.div 1 (Ideal.sqrt (schur (gramOf D idx) k k k : EReal))
    = (rdiag (gramOf D idx) k : EReal) := by
  exact rdiag_eq (gramOf_pos idx) k

/-- The kernel's entry of the factor below the diagonal. -/
theorem c_eq (i j : ℕ) : (schur (gramOf D idx) j i j : EReal) * (rdiag (gramOf D idx) j : EReal)
    = (chol (gramOf D idx) i j : EReal) := chol_eq i j

/-- One step of the factorization. -/
theorem c_step (k i j : ℕ) : (schur (gramOf D idx) k i j : EReal) - (chol (gramOf D idx) i k : EReal) * (chol (gramOf D idx) j k : EReal)
    = (schur (gramOf D idx) (k + 1) i j : EReal) := chol_step (gramOf_symm idx) (gramOf_pos idx) k i j

/-- One step of the forward substitution. -/
theorem y_step (k i : ℕ) : rhs (gramOf D idx) (proj D X idx) k i - (chol (gramOf D idx) i k : EReal)
      * (rhs (gramOf D idx) (proj D X idx) k k * (rdiag (gramOf D idx) k : EReal))
    = rhs (gramOf D idx) (proj D X idx) (k + 1) i := rhs_step (gramOf_pos idx) _ k i

/-- The weight of the last atom. -/
theorem w_0 (i : ℕ) : rhs (gramOf D idx) (proj D X idx) i i * (rdiag (gramOf D idx) i : EReal) * (rdiag (gramOf D idx) i : EReal)
    = weight D X idx (i + 1) i := by
  rw [back_last (gramOf_pos idx), weight, unknown_0]

/-- The weight of the last atom but one. -/
theorem w_1 {i j m : ℕ} (hj : j = i + 1) (hm : m = i + 2) : (rhs (gramOf D idx) (proj D X idx) i i * (rdiag (gramOf D idx) i : EReal)
      - (chol (gramOf D idx) j i : EReal) * weight D X idx m j) * (rdiag (gramOf D idx) i : EReal)
    = weight D X idx m i := by
  subst hj hm
  rw [back_step (gramOf_symm idx) (gramOf_pos idx), back_last (gramOf_pos idx)]
  simp only [weight]
  rw [← unknown_1]

/-- A weight with two more after it, by the kernel's back substitution. -/
theorem w_2 {i j k m : ℕ} (hj : j = i + 1) (hk : k = i + 2) (hm : m = i + 3) : (rhs (gramOf D idx) (proj D X idx) i i * (rdiag (gramOf D idx) i : EReal)
      - (chol (gramOf D idx) j i : EReal) * weight D X idx m j
      - (chol (gramOf D idx) k i : EReal) * weight D X idx m k) * (rdiag (gramOf D idx) i : EReal)
    = weight D X idx m i := by
  subst hj hk hm
  simp only [back_step (gramOf_symm idx) (gramOf_pos idx), back_last (gramOf_pos idx)]
  simp only [weight]
  rw [← unknown_2]

/-- A weight with three more after it, by the kernel's back substitution. -/
theorem w_3 {i j k l m : ℕ} (hj : j = i + 1) (hk : k = i + 2) (hl : l = i + 3) (hm : m = i + 4) : (rhs (gramOf D idx) (proj D X idx) i i * (rdiag (gramOf D idx) i : EReal)
      - (chol (gramOf D idx) j i : EReal) * weight D X idx m j
      - (chol (gramOf D idx) k i : EReal) * weight D X idx m k
      - (chol (gramOf D idx) l i : EReal) * weight D X idx m l) * (rdiag (gramOf D idx) i : EReal)
    = weight D X idx m i := by
  subst hj hk hl hm
  simp only [back_step (gramOf_symm idx) (gramOf_pos idx), back_last (gramOf_pos idx)]
  simp only [weight]
  rw [← unknown_3]

/-- A weight with four more after it, by the kernel's back substitution. -/
theorem w_4 {i j k l n m : ℕ} (hj : j = i + 1) (hk : k = i + 2) (hl : l = i + 3) (hn : n = i + 4) (hm : m = i + 5) : (rhs (gramOf D idx) (proj D X idx) i i * (rdiag (gramOf D idx) i : EReal)
      - (chol (gramOf D idx) j i : EReal) * weight D X idx m j
      - (chol (gramOf D idx) k i : EReal) * weight D X idx m k
      - (chol (gramOf D idx) l i : EReal) * weight D X idx m l
      - (chol (gramOf D idx) n i : EReal) * weight D X idx m n) * (rdiag (gramOf D idx) i : EReal)
    = weight D X idx m i := by
  subst hj hk hl hn hm
  simp only [back_step (gramOf_symm idx) (gramOf_pos idx), back_last (gramOf_pos idx)]
  simp only [weight]
  rw [← unknown_4]

/-- The single weight of the first refit, by one division. -/
theorem w_first : Ideal.div (rhs (gramOf D idx) (proj D X idx) 0 0) (schur (gramOf D idx) 0 0 0 : EReal) = weight D X idx 1 0 := by
  rw [div_pivot (gramOf_pos idx), weight, unknown_0]

/-- An atom's product with the signal starts the right-hand side. -/
theorem rhs_start (i : ℕ) : ∑ c, (D c (idx i) : EReal) * X c = rhs (gramOf D idx) (proj D X idx) 0 i := rfl

end Cert.Omp

end
-- ==== Proof.TopOne.lean ====
module

public import proofs.«01_k».proof.Proof.Pick
public import proofs.«01_k».proof.Proof.Gen.ReferenceIdeal.Read
public import Idealize.ShloMosaic.Lib.Pointwise
public import Idealize.ShloMosaic.Lib.ValueIdx

@[expose] public section

set_option maxRecDepth 16384

/-!
The reference's pick and its row lookup, read at an index: the one greatest entry of a row of 512, by its lowest index, and the
row of a table at that index.
-/

noncomputable section

namespace Cert.Omp

open Idealize.ShloMosaic

/-- The head of a list of positions sorted by decreasing entry: the entry is largest, and strictly above all earlier ones. -/
theorem head_sorted {n : ℕ} (x : Fin n → EReal) (before : Fin n → Fin n → Bool) (hb : ∀ k k', before k k' = true ↔ x k' < x k) :
    ∀ l : List (Fin n), l ≠ [] → l.Pairwise (· < ·) →
      ∃ h t, stableSort before l = h :: t ∧ (∀ a ∈ l, x a ≤ x h) ∧ ∀ a ∈ l, a < h → x a < x h
  | [], hl, _ => absurd rfl hl
  | [a], _, _ => ⟨a, [], rfl, by simp, by simp⟩
  | a :: b :: l, _, hs => by
    rw [List.pairwise_cons] at hs
    obtain ⟨h, t, e, h1, h2⟩ := head_sorted x before hb (b :: l) (by simp) hs.2
    rw [stableSort, e, insertBefore]
    by_cases hc : x a < x h
    · rw [if_pos ((hb _ _).mpr hc)]
      refine ⟨h, _, rfl, fun c hm => ?_, fun c hm hlt => ?_⟩
      · rcases List.mem_cons.mp hm with rfl | hm
        · exact hc.le
        · exact h1 c hm
      · rcases List.mem_cons.mp hm with rfl | hm
        · exact hc
        · exact h2 c hm hlt
    · rw [if_neg (fun hh => hc ((hb _ _).mp hh))]
      refine ⟨a, _, rfl, fun c hm => ?_, fun c hm hlt => ?_⟩
      · rcases List.mem_cons.mp hm with rfl | hm
        · exact le_rfl
        · exact (h1 c hm).trans (not_lt.mp hc)
      · rcases List.mem_cons.mp hm with rfl | hm
        · exact absurd hlt (lt_irrefl _)
        · exact absurd (hs.1 c hm) (lt_asymm hlt)

/-- The first position of the sorted order is the first largest entry's. -/
theorem sorted_first (x : Fin 512 → EReal) (before : Fin 512 → Fin 512 → Bool) (hb : ∀ k k', before k k' = true ↔ x k' < x k) :
    sortedFrom before 0 = firstMax x := by
  obtain ⟨h, t, e, h1, h2⟩ := head_sorted x before hb (List.finRange 512) (by simp) (List.pairwise_lt_finRange 512)
  have hh : sortedFrom before 0 = h := by
    have e' : sortPositions 512 before = h :: t := e
    unfold sortedFrom
    rw [List.get_eq_getElem]
    simp [e']
  rw [hh]
  exact (firstMax_eq ⟨fun n => h1 n (List.mem_finRange n), fun n hn => h2 n (List.mem_finRange n) hn⟩).symm

/-- The positions of the greatest entries along axis `d`, read at the slice's source index `i`. -/
theorem topK_apply {s t : Shape} {α : Type} (d : ℕ) (hd : d < s.rank) (gt : α → α → BitVec 1) (x : s.Idx → α)
    (h : s.Slices (fun _ => 0) t) (j : t.Idx) (i : s.Idx)
    (hi : ∀ v : IVec s 32, extractStridedSlice t (fun _ => 0) v h j = v i) :
    (Host.topK t d gt x h).2 j
      = BitVec.ofNat 32 (sortedFrom (fun k k' => gt (x (i.along ⟨d, hd⟩ k)) (x (i.along ⟨d, hd⟩ k')) == 1#1) (i ⟨d, hd⟩)).val := by
  unfold Host.topK Host.sort2
  simp only [dif_pos hd]
  rw [hi]
  simp only [iotaInDim, Shape.Idx.along, Function.update_self]

/-- For a table of `R` rows of `N` entries: the row's own entries decide. -/
theorem topK_row {R N : ℕ} (hN : 0 < N) {α : Type} (gt : α → α → BitVec 1) (x : (⟨2, ![R, N]⟩ : Shape).Idx → α)
    (h : (⟨2, ![R, N]⟩ : Shape).Slices (fun _ => 0) ⟨2, ![R, 1]⟩) (s : Fin R) :
    (Host.topK ⟨2, ![R, 1]⟩ 1 gt x h).2 (ix2 s 0)
      = BitVec.ofNat 32 (sortedFrom (fun k k' => gt (x (ix2 s k)) (x (ix2 s k')) == 1#1) ⟨0, hN⟩).val := by
  refine (topK_apply 1 (by simp) gt x h (ix2 s 0) (ix2 s ⟨0, hN⟩) ?_).trans ?_
  · intro v
    unfold extractStridedSlice
    congr 1
    funext a
    apply Fin.ext
    fin_cases a
    · exact Nat.zero_add _
    · rfl
  · have e : ∀ k : Fin N, (ix2 s ⟨0, hN⟩ : (⟨2, ![R, N]⟩ : Shape).Idx).along (1 : Fin 2) k = ix2 s k := by
      intro k
      funext a
      fin_cases a
      · exact Function.update_of_ne (show (0 : Fin 2) ≠ 1 by decide) _ _
      · exact Function.update_self _ _ _
    have e' : (fun k k' : Fin N => gt (x ((ix2 s ⟨0, hN⟩ : (⟨2, ![R, N]⟩ : Shape).Idx).along (1 : Fin 2) k))
        (x ((ix2 s ⟨0, hN⟩ : (⟨2, ![R, N]⟩ : Shape).Idx).along (1 : Fin 2) k')) == 1#1)
        = fun k k' => gt (x (ix2 s k)) (x (ix2 s k')) == 1#1 := by
      funext k k'
      rw [e, e]
    exact congrArg (fun f : Fin N → Fin N → Bool => BitVec.ofNat 32 (sortedFrom f ⟨0, hN⟩).val) e'

end Cert.Omp

namespace Cert.ReferenceIdeal.Read

open Idealize.ShloMosaic Cert.Omp Cert.ReferenceIdeal.Gen

/-- The comparison's bit says that its second argument is smaller. -/
theorem gt_word (a b : EReal) : (FloatOps.cmpfTotal (F := Ideal) (φ := .f32) .gt a b == 1#1) = true ↔ b < a := by
  rw [Ideal.cmpfTotal_def]
  by_cases h : b < a <;> simp [Ideal.cmp, CmpDirection.ordered, h]

/-- The index of the one greatest entry of row `s`, equal entries by the lowest index. -/
theorem top_one (x : FVec Ideal S32768x512 .f32) (h) (s : Fin 32768) :
    (Host.topK S32768x1 1 (FloatOps.cmpfTotal (F := Ideal) (φ := .f32) .gt) x h).2 (ix2 s 0)
      = BitVec.ofNat 32 (firstMax fun n => x (ix2 s n)).val :=
  (topK_row (by omega) _ x h s).trans (congrArg (fun p : Fin 512 => BitVec.ofNat 32 p.val)
    (sorted_first (fun n => x (ix2 s n)) _ fun k k' => gt_word (x (ix2 s k)) (x (ix2 s k'))))

end Cert.ReferenceIdeal.Read

end
-- ==== Proof.GatherRow.lean ====
module

public import proofs.«01_k».proof.Proof.Pick
public import proofs.«01_k».proof.Proof.Gen.ReferenceIdeal.Read
public import Idealize.ShloMosaic.Lib.Pointwise
public import Idealize.ShloMosaic.Lib.ValueIdx

@[expose] public section

set_option maxRecDepth 16384

/-!
The reference's row lookup read at an index: the row of a table at the index given.
-/

noncomputable section

namespace Cert.Omp

open Idealize.ShloMosaic

/-- The dimension numbers of a lookup of whole rows: one row index for each of `B` results. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The lookup at `(b, c)`: column `c` of the row whose index is entry `b`, read signed and kept within the table. -/
theorem gather_row {N C B w : Nat} (hN : 0 < N)
    (wf : GatherDims.WF ⟨2, ![N, C]⟩ ⟨2, ![B, 1]⟩ ⟨2, ![B, C]⟩ [1] [0] [] [0] [] 1 ![1, C])
    {α : Type} (x : (⟨2, ![N, C]⟩ : Shape).Idx → α) (idx : IVec ⟨2, ![B, 1]⟩ w) (b : Fin B) (c : Fin C) :
    Host.gather (rowDims N C B wf) x idx (ix2 b c) = x (ix2 ⟨min (idx (ix2 b 0)).toInt.toNat (N - 1), by omega⟩ c) := by
  unfold Host.gather
  congr 1
  funext a
  refine Fin.ext ?_
  show (rowDims N C B wf).start (ix2 b c) idx a + (rowDims N C B wf).batchCoord (ix2 b c) a
      + (rowDims N C B wf).offCoord (ix2 b c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b c) ⟨List.idxOf (0 : Fin 2) (rowDims N C B wf).startIndexMap,
        List.idxOf_lt_length_iff.2 (List.mem_singleton.mpr rfl)⟩ = ix2 b 0 := by
      funext b'; refine Fin.ext ?_
      match b' with
      | ⟨0, _⟩ => rfl
      | ⟨1, _⟩ => rfl
    rw [hsi]
    rfl
  · rw [GatherDims.batchCoord_eq_zero _ _ _ (fun h => by simp at h)]
    have hs : (rowDims N C B wf).start (ix2 b c) idx 1 = 0 := by
      unfold GatherDims.start
      rw [dif_neg (fun h => by simp at h)]
    rw [hs]
    unfold GatherDims.offCoord
    rw [dif_pos ((GatherDims.mem_sKept _ _).mpr ⟨by simp, by simp⟩)]
    simp only [Nat.zero_add]
    rfl

end Cert.Omp

namespace Cert.ReferenceIdeal.Read

open Idealize.ShloMosaic Cert.Omp Cert.ReferenceIdeal.Gen

/-- The lookup at a small index word is the row at that index. -/
theorem gather_at (x : FVec Ideal S512x64 .f32) (idx : IVec S32768x1 32) (s : Fin 32768) (c : Fin 64) (p : Fin 512)
    (h : idx (ix2 s 0) = BitVec.ofNat 32 p.val) :
    Host.gather gather_S512x64_S32768x1_S32768x64_1_0_n_n_0_1_164 x idx (ix2 s c) = x (ix2 p c) := by
  refine (gather_row (by omega) _ x idx s c).trans ?_
  have e : min (idx (ix2 s 0)).toInt.toNat (512 - 1) = p.val := by
    rw [h, toInt_small p.isLt.le]
    have := p.isLt
    omega
  exact congrArg (fun q : Fin 512 => x (ix2 q c)) (Fin.ext e)

/-- A small index is not negative: the reference's wrap of negative indices leaves it. -/
theorem wrap_word (p : Fin 512) : Scalar.select (IntOp.cmpi .slt (BitVec.ofNat 32 p.val) 0#32) (BitVec.ofNat 32 p.val + 512#32)
    (BitVec.ofNat 32 p.val) = BitVec.ofNat 32 p.val := by
  have h : IntOp.cmpi .slt (BitVec.ofNat 32 p.val) 0#32 = 0#1 := by
    unfold IntOp.cmpi
    have h1 := toInt_small p.isLt.le
    have h2 : ¬ ((p.val : ℤ) < 0) := by omega
    simp [BitVec.slt, h1, h2]
  rw [h]
  rfl

/-- The mark of a chosen entry as a number. -/
theorem mark_num' (n p : Fin 512) :
    (FloatOps.uitofp (F := Ideal) .f32 (if n = p then 1#1 else 0#1) : EReal) = if n = p then 1 else 0 := by
  split
  · simp [FloatOps.uitofp]
  · simp [FloatOps.uitofp]

end Cert.ReferenceIdeal.Read

end
-- ==== Proof.Stage.lean ====
module

public import proofs.«01_k».proof.Proof.TopOne
public import proofs.«01_k».proof.Proof.GatherRow
public import Idealize.ShloMosaic.Lib.Pointwise
public import Idealize.ShloMosaic.Lib.ValueIdx

@[expose] public section

set_option maxRecDepth 16384

/-!
What the reference's rounds have in common: the dictionary and the signals read at an index, the pick, the Gram matrix's entries,
the elimination's steps and the weights by back substitution.
-/

noncomputable section

namespace Cert.Omp

open Idealize.ShloMosaic Finset

variable {D : Fin 64 → Fin 512 → ℝ} {X : Fin 64 → EReal} (idx : ℕ → Fin 512)

/-- A multiplier of the elimination. -/
theorem m_eq (k i : ℕ) : Ideal.div (schur (gramOf D idx) k i k : EReal) (schur (gramOf D idx) k k k : EReal)
    = ((schur (gramOf D idx) k i k / schur (gramOf D idx) k k k : ℝ) : EReal) := mult_eq (gramOf_pos idx) k i

/-- The last weight, by the reference's elimination. -/
theorem u_0 (i : ℕ) : Ideal.div (rhs (gramOf D idx) (proj D X idx) i i) (schur (gramOf D idx) i i i : EReal)
    = weight D X idx (i + 1) i := by
  rw [div_pivot (gramOf_pos idx), weight, unknown_0]

/-- A weight with one more after it, by the reference's back substitution. -/
theorem u_1 {i j m : ℕ} (hj : j = i + 1) (hm : m = i + 2) : Ideal.div (rhs (gramOf D idx) (proj D X idx) i i
      - (schur (gramOf D idx) i i j : EReal) * weight D X idx m j) (schur (gramOf D idx) i i i : EReal)
    = weight D X idx m i := by
  subst hj hm
  rw [div_pivot (gramOf_pos idx)]
  exact (unknown_1 _ i).symm

/-- A weight with two more after it, by the reference's back substitution. -/
theorem u_2 {i j k m : ℕ} (hj : j = i + 1) (hk : k = i + 2) (hm : m = i + 3) : Ideal.div (rhs (gramOf D idx) (proj D X idx) i i
      - (schur (gramOf D idx) i i j : EReal) * weight D X idx m j
      - (schur (gramOf D idx) i i k : EReal) * weight D X idx m k) (schur (gramOf D idx) i i i : EReal)
    = weight D X idx m i := by
  subst hj hk hm
  rw [div_pivot (gramOf_pos idx)]
  exact (unknown_2 _ i).symm

/-- A weight with three more after it, by the reference's back substitution. -/
theorem u_3 {i j k l m : ℕ} (hj : j = i + 1) (hk : k = i + 2) (hl : l = i + 3) (hm : m = i + 4) :
    Ideal.div (rhs (gramOf D idx) (proj D X idx) i i
      - (schur (gramOf D idx) i i j : EReal) * weight D X idx m j
      - (schur (gramOf D idx) i i k : EReal) * weight D X idx m k
      - (schur (gramOf D idx) i i l : EReal) * weight D X idx m l) (schur (gramOf D idx) i i i : EReal)
    = weight D X idx m i := by
  subst hj hk hl hm
  rw [div_pivot (gramOf_pos idx)]
  exact (unknown_3 _ i).symm

/-- A weight with four more after it, by the reference's back substitution. -/
theorem u_4 {i j k l n m : ℕ} (hj : j = i + 1) (hk : k = i + 2) (hl : l = i + 3) (hn : n = i + 4) (hm : m = i + 5) :
    Ideal.div (rhs (gramOf D idx) (proj D X idx) i i
      - (schur (gramOf D idx) i i j : EReal) * weight D X idx m j
      - (schur (gramOf D idx) i i k : EReal) * weight D X idx m k
      - (schur (gramOf D idx) i i l : EReal) * weight D X idx m l
      - (schur (gramOf D idx) i i n : EReal) * weight D X idx m n) (schur (gramOf D idx) i i i : EReal)
    = weight D X idx m i := by
  subst hj hk hl hn hm
  rw [div_pivot (gramOf_pos idx)]
  exact (unknown_4 _ i).symm

/-- An entry of the Gram matrix with the identity's multiple added, by the places' words. -/
theorem gram_all {i j : ℕ} (hi : i < 512) (hj : j < 512) :
    ∑ c, (D c (idx i) : EReal) * (D c (idx j) : EReal)
      + Ideal.ofBits .f32 925353388#32 * FloatOps.uitofp (F := Ideal) .f32
          (IntOp.cmpi .eq (IntOp.addi (BitVec.ofNat 32 i) 0#32) (BitVec.ofNat 32 j))
    = (schur (gramOf D idx) 0 i j : EReal) := by
  have hw : IntOp.cmpi .eq (IntOp.addi (BitVec.ofNat 32 i) 0#32) (BitVec.ofNat 32 j) = if i = j then 1#1 else 0#1 := by
    have h0 : IntOp.addi (BitVec.ofNat 32 i) 0#32 = BitVec.ofNat 32 i := BitVec.add_zero _
    rw [h0]
    have := cmp_word ⟨i, hi⟩ ⟨j, hj⟩
    simpa [Fin.ext_iff] using this
  rw [hw]
  by_cases h : i = j
  · subst h
    have h1 : FloatOps.uitofp (F := Ideal) .f32 (1#1) = (1 : EReal) := by simp [FloatOps.uitofp]
    rw [if_pos rfl, h1, mul_one]
    exact (congrArg (_ + ·) diagEps_coe).trans (gram_diag idx i)
  · have h1 : FloatOps.uitofp (F := Ideal) .f32 (0#1) = (0 : EReal) := by simp [FloatOps.uitofp]
    rw [if_neg h, h1, mul_zero, add_zero]
    exact gram_off idx h

/-- The score of an atom in a round, from the marks of the atoms used and the signal rebuilt so far. -/
theorem score {k : ℕ} (n : Fin 512) :
    Scalar.select (if Used idx k n then 1#1 else 0#1) (Ideal.ofBits .f32 4286578688#32 : EReal)
      (FloatOps.absf (F := Ideal) (φ := .f32) (∑ c, (X c - recon D X idx k c) * (D c n : EReal)))
    = masked D X ⊥ idx k n := by
  rw [select_if, ofBits_bot]
  unfold masked corr
  simp only [mul_comm (X _ - _)]
  rfl

/-- The reference's mark lies below zero. -/
theorem bot_neg : (⊥ : EReal) < 0 := EReal.bot_lt_zero

end Cert.Omp

namespace Cert.ReferenceIdeal.Read

open Idealize.ShloMosaic Cert.Omp Cert.ReferenceIdeal.Gen

variable (x0 : Vec Ideal S8x64x64x64 .f32) (x1 : Vec Ideal S64x512 .f32)

/-- The dictionary with unit columns. -/
abbrev rd : Fin 64 → Fin 512 → ℝ := unit fun c n => x1 (ix2 c n)

/-- Signal `s`. -/
abbrev rs (s : Fin 32768) : Fin 64 → EReal := fun c => val_main_v6 (F := Ideal) x0 (ix2 s c)

/-- The atoms picked for signal `s`. -/
abbrev rp (s : Fin 32768) : ℕ → Fin 512 := atom (rd x1) (rs x0 s)

/-- The Gram matrix of the atoms picked for signal `s`. -/
abbrev rg (s : Fin 32768) : ℕ → ℕ → ℝ := gramOf (rd x1) (rp x0 x1 s)

/-- The picked atoms' products with signal `s`. -/
abbrev rb (s : Fin 32768) : ℕ → EReal := proj (rd x1) (rs x0 s) (rp x0 x1 s)

/-- The weight of atom `i` among the first `n` picked for signal `s`. -/
abbrev rwt (s : Fin 32768) (n i : ℕ) : EReal := weight (rd x1) (rs x0 s) (rp x0 x1 s) n i

/-- The dictionary with unit columns. -/
theorem at_v4 (c : Fin 64) (n : Fin 512) : val_main_v4 (F := Ideal) x1 (ix2 c n) = (rd x1 c n : EReal) := by
  pointwise [val_main_v4, val_main_v3, val_main_v2, val_main_v1, val_main_v0, val_main_cst, val_main_call0_v2, val_main_call0_v1,
    val_main_call0_v0, val_main_call0_cst]
  exact unitE_coe (fun c n => x1 (ix2 c n)) c n

/-- The score of an atom already used, as the reference passes it on. -/
theorem low_at : id (constant (F := Ideal) S_ .f32 4286578688#32) ix0 = Ideal.ofBits .f32 4286578688#32 := rfl

/-- The index word of a round, from its scores. -/
theorem top_word {k : ℕ} (hk : k < 512) (s : Fin 32768) (x : FVec Ideal S32768x512 .f32) (h)
    (hx : ∀ n, x (ix2 s n) = masked (rd x1) (rs x0 s) ⊥ (rp x0 x1 s) k n) :
    (Host.topK S32768x1 1 (FloatOps.cmpfTotal (F := Ideal) (φ := .f32) .gt) x h).2 (ix2 s 0)
      = BitVec.ofNat 32 (rp x0 x1 s k).val := by
  rw [top_one, funext hx, atom_eq_mask hk bot_neg]

end Cert.ReferenceIdeal.Read

end
-- ==== Proof.Round1.lean ====
module

public import proofs.«01_k».proof.Proof.Stage
public import Idealize.ShloMosaic.Lib.Pointwise
public import Idealize.ShloMosaic.Lib.ValueIdx

@[expose] public section

set_option maxRecDepth 16384

/-!
Round 1 of the reference, read at a signal `s`: the atom picked, the system of 1 equation and its elimination, and the
weights.
-/

noncomputable section

namespace Cert.ReferenceIdeal.Read

open Idealize.ShloMosaic Cert.Omp Cert.ReferenceIdeal.Gen

variable (x0 : Vec Ideal S8x64x64x64 .f32) (x1 : Vec Ideal S64x512 .f32) (s : Fin 32768)

/-- The dictionary with unit columns. -/
theorem at_v9 (n : Fin 512) (c : Fin 64) : val_main_v9 (F := Ideal) x1 (ix2 n c)
    = (rd x1 c n : EReal) := by
  pointwise [val_main_v9]
  simp only [at_v4]

/-- Nothing is rebuilt before the first round. -/
theorem at_v10 (c : Fin 64) : val_main_v10 (F := Ideal) x1 (ix2 s c)
    = recon (rd x1) (rs x0 s) (rp x0 x1 s) 0 c := by
  pointwise [val_main_v10, val_main_v7, val_main_cst_0]
  rw [recon_zero]
  simp only [zero_mul, Finset.sum_const_zero]

/-- Before the first round no atom is marked as used. -/
theorem at_v8 (n : Fin 512) : val_main_v8 (F := Ideal) (ix2 s n) = if Used (rp x0 x1 s) 0 n then 1#1 else 0#1 := by
  rw [if_neg (by rintro ⟨i, hi, -⟩; omega)]
  pointwise [val_main_v8, val_main_c]

/-- The scores of the first round, the atoms already used marked below every score. -/
theorem at_v14 (n : Fin 512) : val_main_v14 (F := Ideal) x0 x1 (ix2 s n)
    = masked (rd x1) (rs x0 s) ⊥ (rp x0 x1 s) 0 n := by
  pointwise [val_main_v14, val_main_call1_v1, val_main_call1_v0, val_main_cst_1, val_main_v13, val_main_v12, val_main_v11]
  rw [at_v8 x0 x1]
  simp only [at_v10 x0 x1, at_v4, low_at]
  exact score _ n

/-- The first atom's index, as a word. -/
theorem at_v15 : val_main_v15 (F := Ideal) x0 x1 (ix1 s) = BitVec.ofNat 32 (rp x0 x1 s 0).val := by
  pointwise [val_main_v15]
  unfold val_main_indices
  exact top_word x0 x1 (by decide) s (val_main_v14 (F := Ideal) x0 x1) _ (at_v14 x0 x1 s)

/-- The mark of the first atom. -/
theorem at_v21 (n : Fin 512) : val_main_v21 (F := Ideal) x0 x1 (ix2 s n)
    = if n = rp x0 x1 s 0 then 1#1 else 0#1 := by
  pointwise [val_main_v21, val_main_v19, val_main_v17, val_main_v16, val_main_v20, val_main_v18]
  simp only [at_v15, cmp_word]

/-- The marks of the atoms used after the first round. -/
theorem at_v22 (n : Fin 512) : val_main_v22 (F := Ideal) x0 x1 (ix2 s n) = if Used (rp x0 x1 s) 1 n then 1#1 else 0#1 := by
  pointwise [val_main_v22]
  rw [at_v8 x0 x1, at_v21, used_step]

/-- The mark of the first atom, as a number. -/
theorem at_v23 (n : Fin 512) : val_main_v23 (F := Ideal) x0 x1 (ix2 s n)
    = if n = rp x0 x1 s 0 then 1 else 0 := by
  pointwise [val_main_v23]
  simp only [at_v21, mark_num']

/-- The dictionary with unit columns. -/
theorem at_v24 (n : Fin 512) (c : Fin 64) : val_main_v24 (F := Ideal) x1 (ix2 n c)
    = (rd x1 c n : EReal) := by
  pointwise [val_main_v24]
  simp only [at_v4]

/-- The first atom. -/
theorem at_v31 (c : Fin 64) : val_main_v31 (F := Ideal) x0 x1 (ix2 s c) = (rd x1 c (rp x0 x1 s 0) : EReal) := by
  unfold val_main_v31
  rw [gather_at _ _ s c (rp x0 x1 s 0), at_v24]
  pointwise [val_main_v30, val_main_v29, val_main_v26, val_main_v25, val_main_c_2, val_main_v28, val_main_v27, val_main_c_3]
  simp only [at_v15]
  exact wrap_word _

/-- The first atom. -/
theorem at_v32 (c : Fin 64) : val_main_v32 (F := Ideal) x0 x1 (ix3 s 0 c)
    = (rd x1 c (rp x0 x1 s 0) : EReal) := by
  pointwise [val_main_v32]
  simp only [at_v31]

/-- Entry (0, 0) of the Gram matrix. -/
theorem at_v44 : val_main_v44 (F := Ideal) x0 x1 (ix3 s 0 0)
    = (schur (rg x0 x1 s) 0 0 0 : EReal) := by
  pointwise [val_main_v44, val_main_v33, val_main_v43, val_main_v42, val_main_v41, val_main_v40, val_main_cst_5, val_main_v39,
    val_main_v38, val_main_v37, val_main_v34, val_main_v36, val_main_c_4, val_main_v35]
  simp only [at_v32]
  exact gram_all _ (by decide) (by decide)

/-- The first atom's product with the signal. -/
theorem at_v45 : val_main_v45 (F := Ideal) x0 x1 (ix2 s 0)
    = rhs (rg x0 x1 s) (rb x0 x1 s) 0 0 := by
  pointwise [val_main_v45]
  simp only [at_v32]
  rfl

/-- The first atom's weight in the refit over the first atom. -/
theorem at_v49 : val_main_v49 (F := Ideal) x0 x1 (ix1 s)
    = rwt x0 x1 s 1 0 := by
  pointwise [val_main_v49, val_main_v47, val_main_v48]
  simp only [at_v45, at_v44, ← Nat.add_assoc, Nat.reduceAdd, Nat.add_zero, Fin.val_zero, Fin.val_one, Fin.isValue,
    Fin.coe_ofNat_eq_mod, Nat.reduceMod, Nat.zero_mod, u_0]

/-- The weights of the first atom, each at its atom's place in the dictionary. -/
theorem at_v53 (n : Fin 512) : val_main_v53 (F := Ideal) x0 x1 (ix2 s n)
    = ∑ i ∈ Finset.range 1, rwt x0 x1 s 1 i * (if n = rp x0 x1 s i then 1 else 0) := by
  pointwise [val_main_v53, val_main_v46, val_main_cst_6, val_main_v52, val_main_v51, val_main_v50]
  simp only [at_v49, at_v23, Finset.sum_range_succ, Finset.sum_range_zero, zero_add]

end Cert.ReferenceIdeal.Read

end
-- ==== Proof.Round2.lean ====
module

public import proofs.«01_k».proof.Proof.Round1
public import Idealize.ShloMosaic.Lib.Pointwise
public import Idealize.ShloMosaic.Lib.ValueIdx

@[expose] public section

set_option maxRecDepth 16384

/-!
Round 2 of the reference, read at a signal `s`: the atom picked, the system of 2 equations and its elimination, and the
weights.
-/

noncomputable section

namespace Cert.ReferenceIdeal.Read

open Idealize.ShloMosaic Cert.Omp Cert.ReferenceIdeal.Gen

variable (x0 : Vec Ideal S8x64x64x64 .f32) (x1 : Vec Ideal S64x512 .f32) (s : Fin 32768)

/-- The dictionary with unit columns. -/
theorem at_v54 (n : Fin 512) (c : Fin 64) : val_main_v54 (F := Ideal) x1 (ix2 n c)
    = (rd x1 c n : EReal) := by
  pointwise [val_main_v54]
  simp only [at_v4]

/-- The signal rebuilt from the first atom. -/
theorem at_v55 (c : Fin 64) : val_main_v55 (F := Ideal) x0 x1 (ix2 s c)
    = recon (rd x1) (rs x0 s) (rp x0 x1 s) 1 c := by
  pointwise [val_main_v55]
  simp only [at_v53, at_v54]
  exact recon_eq_sum (by decide) (rwt x0 x1 s 1) c

/-- The scores of the second round, the atoms already used marked below every score. -/
theorem at_v59 (n : Fin 512) : val_main_v59 (F := Ideal) x0 x1 (ix2 s n)
    = masked (rd x1) (rs x0 s) ⊥ (rp x0 x1 s) 1 n := by
  pointwise [val_main_v59, val_main_call2_v1, val_main_call2_v0, val_main_cst_7, val_main_v58, val_main_v57, val_main_v56]
  simp only [at_v22, at_v55, at_v4, low_at]
  exact score _ n

/-- The second atom's index, as a word. -/
theorem at_v60 : val_main_v60 (F := Ideal) x0 x1 (ix1 s) = BitVec.ofNat 32 (rp x0 x1 s 1).val := by
  pointwise [val_main_v60]
  unfold val_main_indices_9
  exact top_word x0 x1 (by decide) s (val_main_v59 (F := Ideal) x0 x1) _ (at_v59 x0 x1 s)

/-- The mark of the second atom. -/
theorem at_v66 (n : Fin 512) : val_main_v66 (F := Ideal) x0 x1 (ix2 s n)
    = if n = rp x0 x1 s 1 then 1#1 else 0#1 := by
  pointwise [val_main_v66, val_main_v64, val_main_v62, val_main_v61, val_main_v65, val_main_v63]
  simp only [at_v60, cmp_word]

/-- The marks of the atoms used after the second round. -/
theorem at_v67 (n : Fin 512) : val_main_v67 (F := Ideal) x0 x1 (ix2 s n)
    = if Used (rp x0 x1 s) 2 n then 1#1 else 0#1 := by
  pointwise [val_main_v67]
  simp only [at_v22, at_v66, used_step]

/-- The mark of the second atom, as a number. -/
theorem at_v68 (n : Fin 512) : val_main_v68 (F := Ideal) x0 x1 (ix2 s n)
    = if n = rp x0 x1 s 1 then 1 else 0 := by
  pointwise [val_main_v68]
  simp only [at_v66, mark_num']

/-- The dictionary with unit columns. -/
theorem at_v69 (n : Fin 512) (c : Fin 64) : val_main_v69 (F := Ideal) x1 (ix2 n c)
    = (rd x1 c n : EReal) := by
  pointwise [val_main_v69]
  simp only [at_v4]

/-- The second atom. -/
theorem at_v76 (c : Fin 64) : val_main_v76 (F := Ideal) x0 x1 (ix2 s c) = (rd x1 c (rp x0 x1 s 1) : EReal) := by
  unfold val_main_v76
  rw [gather_at _ _ s c (rp x0 x1 s 1), at_v69]
  pointwise [val_main_v75, val_main_v74, val_main_v71, val_main_v70, val_main_c_10, val_main_v73, val_main_v72, val_main_c_11]
  simp only [at_v60]
  exact wrap_word _

/-- The atoms picked so far, stacked. -/
theorem at_v79 (i : Fin 2) (c : Fin 64) : val_main_v79 (F := Ideal) x0 x1 (ix3 s i c)
    = (rd x1 c (rp x0 x1 s i) : EReal) := by
  pointwise [val_main_v79, val_main_v77, val_main_v78]
  simp only [at_v31, at_v76]
  fin_cases i <;> rfl

/-- The Gram matrix of the atoms picked so far. -/
theorem at_v91 (i j : Fin 2) : val_main_v91 (F := Ideal) x0 x1 (ix3 s i j)
    = (schur (rg x0 x1 s) 0 i j : EReal) := by
  pointwise [val_main_v91, val_main_v80, val_main_v90, val_main_v89, val_main_v88, val_main_v87, val_main_cst_13, val_main_v86,
    val_main_v85, val_main_v84, val_main_v81, val_main_v83, val_main_c_12, val_main_v82]
  simp only [at_v79]
  exact gram_all _ (by omega) (by omega)

/-- The products of the atoms picked so far with the signal. -/
theorem at_v92 (i : Fin 2) : val_main_v92 (F := Ideal) x0 x1 (ix2 s i)
    = rhs (rg x0 x1 s) (rb x0 x1 s) 0 i := by
  pointwise [val_main_v92]
  simp only [at_v79]
  rfl

/-- Entry (1, 1) of the matrix after 1 elimination step. -/
theorem at_v103 : val_main_v103 (F := Ideal) x0 x1 (ix3 s 0 0)
    = (schur (rg x0 x1 s) 1 1 1 : EReal) := by
  pointwise [val_main_v103, val_main_v99, val_main_v102, val_main_v100, val_main_v98, val_main_v95, val_main_v94, val_main_v97,
    val_main_v96, val_main_v101]
  simp only [at_v91, ← Nat.add_assoc, Nat.reduceAdd, Nat.add_zero, Fin.val_zero, Fin.val_one, Fin.isValue, Fin.coe_ofNat_eq_mod,
    Nat.reduceMod, Nat.zero_mod, m_eq, elim_step]

/-- Entry 1 of the right-hand side after 1 elimination step. -/
theorem at_v107 : val_main_v107 (F := Ideal) x0 x1 (ix2 s 0)
    = rhs (rg x0 x1 s) (rb x0 x1 s) 1 1 := by
  pointwise [val_main_v107, val_main_v104, val_main_v106, val_main_v98, val_main_v95, val_main_v94, val_main_v97, val_main_v96,
    val_main_v105]
  simp only [at_v92, at_v91, ← Nat.add_assoc, Nat.reduceAdd, Nat.add_zero, Fin.val_zero, Fin.val_one, Fin.isValue,
    Fin.coe_ofNat_eq_mod, Nat.reduceMod, Nat.zero_mod, m_eq, elim_rhs]

/-- The second atom's weight in the refit over the first two atoms. -/
theorem at_v110 : val_main_v110 (F := Ideal) x0 x1 (ix1 s)
    = rwt x0 x1 s 2 1 := by
  pointwise [val_main_v110, val_main_v108, val_main_v109]
  simp only [at_v107, at_v103, ← Nat.add_assoc, Nat.reduceAdd, Nat.add_zero, Fin.val_zero, Fin.val_one, Fin.isValue,
    Fin.coe_ofNat_eq_mod, Nat.reduceMod, Nat.zero_mod, u_0]

/-- The first atom's weight in the refit over the first two atoms. -/
theorem at_v119 : val_main_v119 (F := Ideal) x0 x1 (ix1 s)
    = rwt x0 x1 s 2 0 := by
  pointwise [val_main_v119, val_main_v116, val_main_v112, val_main_v111, val_main_v115, val_main_v114, val_main_v113, val_main_v118,
    val_main_v117]
  simp only [at_v92, at_v91, at_v110, ← Nat.add_assoc, Nat.reduceAdd, Nat.add_zero, Fin.val_zero, Fin.val_one, Fin.isValue,
    Fin.coe_ofNat_eq_mod, Nat.reduceMod, Nat.zero_mod, u_1 (i := 0) (j := 1) (m := 2) _ rfl rfl]

/-- The weights of the first two atoms, each at its atom's place in the dictionary. -/
theorem at_v127 (n : Fin 512) : val_main_v127 (F := Ideal) x0 x1 (ix2 s n)
    = ∑ i ∈ Finset.range 2, rwt x0 x1 s 2 i * (if n = rp x0 x1 s i then 1 else 0) := by
  pointwise [val_main_v127, val_main_v123, val_main_v93, val_main_cst_14, val_main_v122, val_main_v121, val_main_v120, val_main_v126,
    val_main_v125, val_main_v124]
  simp only [at_v119, at_v23, at_v110, at_v68, Finset.sum_range_succ, Finset.sum_range_zero, zero_add]

end Cert.ReferenceIdeal.Read

end
-- ==== Proof.Round3.lean ====
module

public import proofs.«01_k».proof.Proof.Round2
public import Idealize.ShloMosaic.Lib.Pointwise
public import Idealize.ShloMosaic.Lib.ValueIdx

@[expose] public section

set_option maxRecDepth 16384

/-!
Round 3 of the reference, read at a signal `s`: the atom picked, the system of 3 equations and its elimination, and the
weights.
-/

noncomputable section

namespace Cert.ReferenceIdeal.Read

open Idealize.ShloMosaic Cert.Omp Cert.ReferenceIdeal.Gen

variable (x0 : Vec Ideal S8x64x64x64 .f32) (x1 : Vec Ideal S64x512 .f32) (s : Fin 32768)

/-- The dictionary with unit columns. -/
theorem at_v128 (n : Fin 512) (c : Fin 64) : val_main_v128 (F := Ideal) x1 (ix2 n c)
    = (rd x1 c n : EReal) := by
  pointwise [val_main_v128]
  simp only [at_v4]

/-- The signal rebuilt from the first two atoms. -/
theorem at_v129 (c : Fin 64) : val_main_v129 (F := Ideal) x0 x1 (ix2 s c)
    = recon (rd x1) (rs x0 s) (rp x0 x1 s) 2 c := by
  pointwise [val_main_v129]
  simp only [at_v127, at_v128]
  exact recon_eq_sum (by decide) (rwt x0 x1 s 2) c

/-- The scores of the third round, the atoms already used marked below every score. -/
theorem at_v133 (n : Fin 512) : val_main_v133 (F := Ideal) x0 x1 (ix2 s n)
    = masked (rd x1) (rs x0 s) ⊥ (rp x0 x1 s) 2 n := by
  pointwise [val_main_v133, val_main_call3_v1, val_main_call3_v0, val_main_cst_15, val_main_v132, val_main_v131, val_main_v130]
  simp only [at_v67, at_v129, at_v4, low_at]
  exact score _ n

/-- The third atom's index, as a word. -/
theorem at_v134 : val_main_v134 (F := Ideal) x0 x1 (ix1 s) = BitVec.ofNat 32 (rp x0 x1 s 2).val := by
  pointwise [val_main_v134]
  unfold val_main_indices_17
  exact top_word x0 x1 (by decide) s (val_main_v133 (F := Ideal) x0 x1) _ (at_v133 x0 x1 s)

/-- The mark of the third atom. -/
theorem at_v140 (n : Fin 512) : val_main_v140 (F := Ideal) x0 x1 (ix2 s n)
    = if n = rp x0 x1 s 2 then 1#1 else 0#1 := by
  pointwise [val_main_v140, val_main_v138, val_main_v136, val_main_v135, val_main_v139, val_main_v137]
  simp only [at_v134, cmp_word]

/-- The marks of the atoms used after the third round. -/
theorem at_v141 (n : Fin 512) : val_main_v141 (F := Ideal) x0 x1 (ix2 s n)
    = if Used (rp x0 x1 s) 3 n then 1#1 else 0#1 := by
  pointwise [val_main_v141]
  simp only [at_v67, at_v140, used_step]

/-- The mark of the third atom, as a number. -/
theorem at_v142 (n : Fin 512) : val_main_v142 (F := Ideal) x0 x1 (ix2 s n)
    = if n = rp x0 x1 s 2 then 1 else 0 := by
  pointwise [val_main_v142]
  simp only [at_v140, mark_num']

/-- The dictionary with unit columns. -/
theorem at_v143 (n : Fin 512) (c : Fin 64) : val_main_v143 (F := Ideal) x1 (ix2 n c)
    = (rd x1 c n : EReal) := by
  pointwise [val_main_v143]
  simp only [at_v4]

/-- The third atom. -/
theorem at_v150 (c : Fin 64) : val_main_v150 (F := Ideal) x0 x1 (ix2 s c) = (rd x1 c (rp x0 x1 s 2) : EReal) := by
  unfold val_main_v150
  rw [gather_at _ _ s c (rp x0 x1 s 2), at_v143]
  pointwise [val_main_v149, val_main_v148, val_main_v145, val_main_v144, val_main_c_18, val_main_v147, val_main_v146, val_main_c_19]
  simp only [at_v134]
  exact wrap_word _

/-- The atoms picked so far, stacked. -/
theorem at_v154 (i : Fin 3) (c : Fin 64) : val_main_v154 (F := Ideal) x0 x1 (ix3 s i c)
    = (rd x1 c (rp x0 x1 s i) : EReal) := by
  pointwise [val_main_v154, val_main_v151, val_main_v152, val_main_v153]
  simp only [at_v31, at_v76, at_v150]
  fin_cases i <;> rfl

/-- The Gram matrix of the atoms picked so far. -/
theorem at_v166 (i j : Fin 3) : val_main_v166 (F := Ideal) x0 x1 (ix3 s i j)
    = (schur (rg x0 x1 s) 0 i j : EReal) := by
  pointwise [val_main_v166, val_main_v155, val_main_v165, val_main_v164, val_main_v163, val_main_v162, val_main_cst_21,
    val_main_v161, val_main_v160, val_main_v159, val_main_v156, val_main_v158, val_main_c_20, val_main_v157]
  simp only [at_v154]
  exact gram_all _ (by omega) (by omega)

/-- The products of the atoms picked so far with the signal. -/
theorem at_v167 (i : Fin 3) : val_main_v167 (F := Ideal) x0 x1 (ix2 s i)
    = rhs (rg x0 x1 s) (rb x0 x1 s) 0 i := by
  pointwise [val_main_v167]
  simp only [at_v154]
  rfl

/-- The matrix left after one elimination step. -/
theorem at_v181 (i j : Fin 2) : val_main_v181 (F := Ideal) x0 x1 (ix3 s i j)
    = (schur (rg x0 x1 s) 1 (1 + i) (1 + j) : EReal) := by
  pointwise [val_main_v181, val_main_v175, val_main_v180, val_main_v178, val_main_v176, val_main_v174, val_main_v170, val_main_v169,
    val_main_v173, val_main_v172, val_main_v171, val_main_v179, val_main_v177]
  simp only [at_v166, ← Nat.add_assoc, Nat.reduceAdd, Nat.add_zero, Fin.val_zero, Fin.val_one, Fin.isValue, Fin.coe_ofNat_eq_mod,
    Nat.reduceMod, Nat.zero_mod, m_eq, elim_step]

/-- The right-hand side left after one elimination step. -/
theorem at_v186 (i : Fin 2) : val_main_v186 (F := Ideal) x0 x1 (ix2 s i)
    = rhs (rg x0 x1 s) (rb x0 x1 s) 1 (1 + i) := by
  pointwise [val_main_v186, val_main_v182, val_main_v185, val_main_v174, val_main_v170, val_main_v169, val_main_v173, val_main_v172,
    val_main_v171, val_main_v184, val_main_v183]
  simp only [at_v167, at_v166, ← Nat.add_assoc, Nat.reduceAdd, Nat.add_zero, Fin.val_zero, Fin.val_one, Fin.isValue,
    Fin.coe_ofNat_eq_mod, Nat.reduceMod, Nat.zero_mod, m_eq, elim_rhs]

/-- Entry (2, 2) of the matrix after 2 elimination steps. -/
theorem at_v196 : val_main_v196 (F := Ideal) x0 x1 (ix3 s 0 0)
    = (schur (rg x0 x1 s) 2 2 2 : EReal) := by
  pointwise [val_main_v196, val_main_v192, val_main_v195, val_main_v193, val_main_v191, val_main_v188, val_main_v187, val_main_v190,
    val_main_v189, val_main_v194]
  simp only [at_v181, ← Nat.add_assoc, Nat.reduceAdd, Nat.add_zero, Fin.val_zero, Fin.val_one, Fin.isValue, Fin.coe_ofNat_eq_mod,
    Nat.reduceMod, Nat.zero_mod, m_eq, elim_step]

/-- Entry 2 of the right-hand side after 2 elimination steps. -/
theorem at_v200 : val_main_v200 (F := Ideal) x0 x1 (ix2 s 0)
    = rhs (rg x0 x1 s) (rb x0 x1 s) 2 2 := by
  pointwise [val_main_v200, val_main_v197, val_main_v199, val_main_v191, val_main_v188, val_main_v187, val_main_v190, val_main_v189,
    val_main_v198]
  simp only [at_v186, at_v181, ← Nat.add_assoc, Nat.reduceAdd, Nat.add_zero, Fin.val_zero, Fin.val_one, Fin.isValue,
    Fin.coe_ofNat_eq_mod, Nat.reduceMod, Nat.zero_mod, m_eq, elim_rhs]

/-- The third atom's weight in the refit over the first three atoms. -/
theorem at_v203 : val_main_v203 (F := Ideal) x0 x1 (ix1 s)
    = rwt x0 x1 s 3 2 := by
  pointwise [val_main_v203, val_main_v201, val_main_v202]
  simp only [at_v200, at_v196, ← Nat.add_assoc, Nat.reduceAdd, Nat.add_zero, Fin.val_zero, Fin.val_one, Fin.isValue,
    Fin.coe_ofNat_eq_mod, Nat.reduceMod, Nat.zero_mod, u_0]

/-- The second atom's weight in the refit over the first three atoms. -/
theorem at_v212 : val_main_v212 (F := Ideal) x0 x1 (ix1 s)
    = rwt x0 x1 s 3 1 := by
  pointwise [val_main_v212, val_main_v209, val_main_v205, val_main_v204, val_main_v208, val_main_v207, val_main_v206, val_main_v211,
    val_main_v210]
  simp only [at_v186, at_v181, at_v203, ← Nat.add_assoc, Nat.reduceAdd, Nat.add_zero, Fin.val_zero, Fin.val_one, Fin.isValue,
    Fin.coe_ofNat_eq_mod, Nat.reduceMod, Nat.zero_mod, u_1 (i := 1) (j := 2) (m := 3) _ rfl rfl]

/-- The first atom's weight in the refit over the first three atoms. -/
theorem at_v225 : val_main_v225 (F := Ideal) x0 x1 (ix1 s)
    = rwt x0 x1 s 3 0 := by
  pointwise [val_main_v225, val_main_v222, val_main_v218, val_main_v214, val_main_v213, val_main_v217, val_main_v216, val_main_v215,
    val_main_v221, val_main_v220, val_main_v219, val_main_v224, val_main_v223]
  simp only [at_v167, at_v166, at_v212, at_v203, ← Nat.add_assoc, Nat.reduceAdd, Nat.add_zero, Fin.val_zero, Fin.val_one,
    Fin.isValue, Fin.coe_ofNat_eq_mod, Nat.reduceMod, Nat.zero_mod, u_2 (i := 0) (j := 1) (k := 2) (m := 3) _ rfl rfl rfl]

/-- The weights of the first three atoms, each at its atom's place in the dictionary. -/
theorem at_v237 (n : Fin 512) : val_main_v237 (F := Ideal) x0 x1 (ix2 s n)
    = ∑ i ∈ Finset.range 3, rwt x0 x1 s 3 i * (if n = rp x0 x1 s i then 1 else 0) := by
  pointwise [val_main_v237, val_main_v233, val_main_v229, val_main_v168, val_main_cst_22, val_main_v228, val_main_v227,
    val_main_v226, val_main_v232, val_main_v231, val_main_v230, val_main_v236, val_main_v235, val_main_v234]
  simp only [at_v225, at_v23, at_v212, at_v68, at_v203, at_v142, Finset.sum_range_succ, Finset.sum_range_zero, zero_add]

end Cert.ReferenceIdeal.Read

end
-- ==== Proof.Round4.lean ====
module

public import proofs.«01_k».proof.Proof.Round3
public import Idealize.ShloMosaic.Lib.Pointwise
public import Idealize.ShloMosaic.Lib.ValueIdx

@[expose] public section

set_option maxRecDepth 16384

/-!
Round 4 of the reference, read at a signal `s`: the atom picked, the system of 4 equations and its elimination, and the
weights.
-/

noncomputable section

namespace Cert.ReferenceIdeal.Read

open Idealize.ShloMosaic Cert.Omp Cert.ReferenceIdeal.Gen

variable (x0 : Vec Ideal S8x64x64x64 .f32) (x1 : Vec Ideal S64x512 .f32) (s : Fin 32768)

/-- The dictionary with unit columns. -/
theorem at_v238 (n : Fin 512) (c : Fin 64) : val_main_v238 (F := Ideal) x1 (ix2 n c)
    = (rd x1 c n : EReal) := by
  pointwise [val_main_v238]
  simp only [at_v4]

/-- The signal rebuilt from the first three atoms. -/
theorem at_v239 (c : Fin 64) : val_main_v239 (F := Ideal) x0 x1 (ix2 s c)
    = recon (rd x1) (rs x0 s) (rp x0 x1 s) 3 c := by
  pointwise [val_main_v239]
  simp only [at_v237, at_v238]
  exact recon_eq_sum (by decide) (rwt x0 x1 s 3) c

/-- The scores of the fourth round, the atoms already used marked below every score. -/
theorem at_v243 (n : Fin 512) : val_main_v243 (F := Ideal) x0 x1 (ix2 s n)
    = masked (rd x1) (rs x0 s) ⊥ (rp x0 x1 s) 3 n := by
  pointwise [val_main_v243, val_main_call4_v1, val_main_call4_v0, val_main_cst_23, val_main_v242, val_main_v241, val_main_v240]
  simp only [at_v141, at_v239, at_v4, low_at]
  exact score _ n

/-- The fourth atom's index, as a word. -/
theorem at_v244 : val_main_v244 (F := Ideal) x0 x1 (ix1 s) = BitVec.ofNat 32 (rp x0 x1 s 3).val := by
  pointwise [val_main_v244]
  unfold val_main_indices_25
  exact top_word x0 x1 (by decide) s (val_main_v243 (F := Ideal) x0 x1) _ (at_v243 x0 x1 s)

/-- The mark of the fourth atom. -/
theorem at_v250 (n : Fin 512) : val_main_v250 (F := Ideal) x0 x1 (ix2 s n)
    = if n = rp x0 x1 s 3 then 1#1 else 0#1 := by
  pointwise [val_main_v250, val_main_v248, val_main_v246, val_main_v245, val_main_v249, val_main_v247]
  simp only [at_v244, cmp_word]

/-- The marks of the atoms used after the fourth round. -/
theorem at_v251 (n : Fin 512) : val_main_v251 (F := Ideal) x0 x1 (ix2 s n)
    = if Used (rp x0 x1 s) 4 n then 1#1 else 0#1 := by
  pointwise [val_main_v251]
  simp only [at_v141, at_v250, used_step]

/-- The mark of the fourth atom, as a number. -/
theorem at_v252 (n : Fin 512) : val_main_v252 (F := Ideal) x0 x1 (ix2 s n)
    = if n = rp x0 x1 s 3 then 1 else 0 := by
  pointwise [val_main_v252]
  simp only [at_v250, mark_num']

/-- The dictionary with unit columns. -/
theorem at_v253 (n : Fin 512) (c : Fin 64) : val_main_v253 (F := Ideal) x1 (ix2 n c)
    = (rd x1 c n : EReal) := by
  pointwise [val_main_v253]
  simp only [at_v4]

/-- The fourth atom. -/
theorem at_v260 (c : Fin 64) : val_main_v260 (F := Ideal) x0 x1 (ix2 s c) = (rd x1 c (rp x0 x1 s 3) : EReal) := by
  unfold val_main_v260
  rw [gather_at _ _ s c (rp x0 x1 s 3), at_v253]
  pointwise [val_main_v259, val_main_v258, val_main_v255, val_main_v254, val_main_c_26, val_main_v257, val_main_v256, val_main_c_27]
  simp only [at_v244]
  exact wrap_word _

/-- The atoms picked so far, stacked. -/
theorem at_v265 (i : Fin 4) (c : Fin 64) : val_main_v265 (F := Ideal) x0 x1 (ix3 s i c)
    = (rd x1 c (rp x0 x1 s i) : EReal) := by
  pointwise [val_main_v265, val_main_v261, val_main_v262, val_main_v263, val_main_v264]
  simp only [at_v31, at_v76, at_v150, at_v260]
  fin_cases i <;> rfl

/-- The Gram matrix of the atoms picked so far. -/
theorem at_v277 (i j : Fin 4) : val_main_v277 (F := Ideal) x0 x1 (ix3 s i j)
    = (schur (rg x0 x1 s) 0 i j : EReal) := by
  pointwise [val_main_v277, val_main_v266, val_main_v276, val_main_v275, val_main_v274, val_main_v273, val_main_cst_29,
    val_main_v272, val_main_v271, val_main_v270, val_main_v267, val_main_v269, val_main_c_28, val_main_v268]
  simp only [at_v265]
  exact gram_all _ (by omega) (by omega)

/-- The products of the atoms picked so far with the signal. -/
theorem at_v278 (i : Fin 4) : val_main_v278 (F := Ideal) x0 x1 (ix2 s i)
    = rhs (rg x0 x1 s) (rb x0 x1 s) 0 i := by
  pointwise [val_main_v278]
  simp only [at_v265]
  rfl

/-- The matrix left after one elimination step. -/
theorem at_v292 (i j : Fin 3) : val_main_v292 (F := Ideal) x0 x1 (ix3 s i j)
    = (schur (rg x0 x1 s) 1 (1 + i) (1 + j) : EReal) := by
  pointwise [val_main_v292, val_main_v286, val_main_v291, val_main_v289, val_main_v287, val_main_v285, val_main_v281, val_main_v280,
    val_main_v284, val_main_v283, val_main_v282, val_main_v290, val_main_v288]
  simp only [at_v277, ← Nat.add_assoc, Nat.reduceAdd, Nat.add_zero, Fin.val_zero, Fin.val_one, Fin.isValue, Fin.coe_ofNat_eq_mod,
    Nat.reduceMod, Nat.zero_mod, m_eq, elim_step]

/-- The right-hand side left after one elimination step. -/
theorem at_v297 (i : Fin 3) : val_main_v297 (F := Ideal) x0 x1 (ix2 s i)
    = rhs (rg x0 x1 s) (rb x0 x1 s) 1 (1 + i) := by
  pointwise [val_main_v297, val_main_v293, val_main_v296, val_main_v285, val_main_v281, val_main_v280, val_main_v284, val_main_v283,
    val_main_v282, val_main_v295, val_main_v294]
  simp only [at_v278, at_v277, ← Nat.add_assoc, Nat.reduceAdd, Nat.add_zero, Fin.val_zero, Fin.val_one, Fin.isValue,
    Fin.coe_ofNat_eq_mod, Nat.reduceMod, Nat.zero_mod, m_eq, elim_rhs]

/-- The matrix left after two elimination steps. -/
theorem at_v310 (i j : Fin 2) : val_main_v310 (F := Ideal) x0 x1 (ix3 s i j)
    = (schur (rg x0 x1 s) 2 (2 + i) (2 + j) : EReal) := by
  pointwise [val_main_v310, val_main_v304, val_main_v309, val_main_v307, val_main_v305, val_main_v303, val_main_v299, val_main_v298,
    val_main_v302, val_main_v301, val_main_v300, val_main_v308, val_main_v306]
  simp only [at_v292, ← Nat.add_assoc, Nat.reduceAdd, Nat.add_zero, Fin.val_zero, Fin.val_one, Fin.isValue, Fin.coe_ofNat_eq_mod,
    Nat.reduceMod, Nat.zero_mod, m_eq, elim_step]

/-- The right-hand side left after two elimination steps. -/
theorem at_v315 (i : Fin 2) : val_main_v315 (F := Ideal) x0 x1 (ix2 s i)
    = rhs (rg x0 x1 s) (rb x0 x1 s) 2 (2 + i) := by
  pointwise [val_main_v315, val_main_v311, val_main_v314, val_main_v303, val_main_v299, val_main_v298, val_main_v302, val_main_v301,
    val_main_v300, val_main_v313, val_main_v312]
  simp only [at_v297, at_v292, ← Nat.add_assoc, Nat.reduceAdd, Nat.add_zero, Fin.val_zero, Fin.val_one, Fin.isValue,
    Fin.coe_ofNat_eq_mod, Nat.reduceMod, Nat.zero_mod, m_eq, elim_rhs]

/-- Entry (3, 3) of the matrix after 3 elimination steps. -/
theorem at_v325 : val_main_v325 (F := Ideal) x0 x1 (ix3 s 0 0)
    = (schur (rg x0 x1 s) 3 3 3 : EReal) := by
  pointwise [val_main_v325, val_main_v321, val_main_v324, val_main_v322, val_main_v320, val_main_v317, val_main_v316, val_main_v319,
    val_main_v318, val_main_v323]
  simp only [at_v310, ← Nat.add_assoc, Nat.reduceAdd, Nat.add_zero, Fin.val_zero, Fin.val_one, Fin.isValue, Fin.coe_ofNat_eq_mod,
    Nat.reduceMod, Nat.zero_mod, m_eq, elim_step]

/-- Entry 3 of the right-hand side after 3 elimination steps. -/
theorem at_v329 : val_main_v329 (F := Ideal) x0 x1 (ix2 s 0)
    = rhs (rg x0 x1 s) (rb x0 x1 s) 3 3 := by
  pointwise [val_main_v329, val_main_v326, val_main_v328, val_main_v320, val_main_v317, val_main_v316, val_main_v319, val_main_v318,
    val_main_v327]
  simp only [at_v315, at_v310, ← Nat.add_assoc, Nat.reduceAdd, Nat.add_zero, Fin.val_zero, Fin.val_one, Fin.isValue,
    Fin.coe_ofNat_eq_mod, Nat.reduceMod, Nat.zero_mod, m_eq, elim_rhs]

/-- The fourth atom's weight in the refit over the first four atoms. -/
theorem at_v332 : val_main_v332 (F := Ideal) x0 x1 (ix1 s)
    = rwt x0 x1 s 4 3 := by
  pointwise [val_main_v332, val_main_v330, val_main_v331]
  simp only [at_v329, at_v325, ← Nat.add_assoc, Nat.reduceAdd, Nat.add_zero, Fin.val_zero, Fin.val_one, Fin.isValue,
    Fin.coe_ofNat_eq_mod, Nat.reduceMod, Nat.zero_mod, u_0]

/-- The third atom's weight in the refit over the first four atoms. -/
theorem at_v341 : val_main_v341 (F := Ideal) x0 x1 (ix1 s)
    = rwt x0 x1 s 4 2 := by
  pointwise [val_main_v341, val_main_v338, val_main_v334, val_main_v333, val_main_v337, val_main_v336, val_main_v335, val_main_v340,
    val_main_v339]
  simp only [at_v315, at_v310, at_v332, ← Nat.add_assoc, Nat.reduceAdd, Nat.add_zero, Fin.val_zero, Fin.val_one, Fin.isValue,
    Fin.coe_ofNat_eq_mod, Nat.reduceMod, Nat.zero_mod, u_1 (i := 2) (j := 3) (m := 4) _ rfl rfl]

/-- The second atom's weight in the refit over the first four atoms. -/
theorem at_v354 : val_main_v354 (F := Ideal) x0 x1 (ix1 s)
    = rwt x0 x1 s 4 1 := by
  pointwise [val_main_v354, val_main_v351, val_main_v347, val_main_v343, val_main_v342, val_main_v346, val_main_v345, val_main_v344,
    val_main_v350, val_main_v349, val_main_v348, val_main_v353, val_main_v352]
  simp only [at_v297, at_v292, at_v341, at_v332, ← Nat.add_assoc, Nat.reduceAdd, Nat.add_zero, Fin.val_zero, Fin.val_one,
    Fin.isValue, Fin.coe_ofNat_eq_mod, Nat.reduceMod, Nat.zero_mod, u_2 (i := 1) (j := 2) (k := 3) (m := 4) _ rfl rfl rfl]

/-- The first atom's weight in the refit over the first four atoms. -/
theorem at_v371 : val_main_v371 (F := Ideal) x0 x1 (ix1 s)
    = rwt x0 x1 s 4 0 := by
  pointwise [val_main_v371, val_main_v368, val_main_v364, val_main_v360, val_main_v356, val_main_v355, val_main_v359, val_main_v358,
    val_main_v357, val_main_v363, val_main_v362, val_main_v361, val_main_v367, val_main_v366, val_main_v365, val_main_v370,
    val_main_v369]
  simp only [at_v278, at_v277, at_v354, at_v341, at_v332, ← Nat.add_assoc, Nat.reduceAdd, Nat.add_zero, Fin.val_zero, Fin.val_one,
    Fin.isValue, Fin.coe_ofNat_eq_mod, Nat.reduceMod, Nat.zero_mod,
    u_3 (i := 0) (j := 1) (k := 2) (l := 3) (m := 4) _ rfl rfl rfl rfl]

/-- The weights of the first four atoms, each at its atom's place in the dictionary. -/
theorem at_v387 (n : Fin 512) : val_main_v387 (F := Ideal) x0 x1 (ix2 s n)
    = ∑ i ∈ Finset.range 4, rwt x0 x1 s 4 i * (if n = rp x0 x1 s i then 1 else 0) := by
  pointwise [val_main_v387, val_main_v383, val_main_v379, val_main_v375, val_main_v279, val_main_cst_30, val_main_v374,
    val_main_v373, val_main_v372, val_main_v378, val_main_v377, val_main_v376, val_main_v382, val_main_v381, val_main_v380,
    val_main_v386, val_main_v385, val_main_v384]
  simp only [at_v371, at_v23, at_v354, at_v68, at_v341, at_v142, at_v332, at_v252, Finset.sum_range_succ, Finset.sum_range_zero,
    zero_add]

end Cert.ReferenceIdeal.Read

end
-- ==== Proof.Round5.lean ====
module

public import proofs.«01_k».proof.Proof.Round4
public import Idealize.ShloMosaic.Lib.Pointwise
public import Idealize.ShloMosaic.Lib.ValueIdx

@[expose] public section

set_option maxRecDepth 16384

/-!
Round 5 of the reference, read at a signal `s`: the atom picked, the system of 5 equations and its elimination, and the
weights.
-/

noncomputable section

namespace Cert.ReferenceIdeal.Read

open Idealize.ShloMosaic Cert.Omp Cert.ReferenceIdeal.Gen

variable (x0 : Vec Ideal S8x64x64x64 .f32) (x1 : Vec Ideal S64x512 .f32) (s : Fin 32768)

/-- The dictionary with unit columns. -/
theorem at_v388 (n : Fin 512) (c : Fin 64) : val_main_v388 (F := Ideal) x1 (ix2 n c)
    = (rd x1 c n : EReal) := by
  pointwise [val_main_v388]
  simp only [at_v4]

/-- The signal rebuilt from the first four atoms. -/
theorem at_v389 (c : Fin 64) : val_main_v389 (F := Ideal) x0 x1 (ix2 s c)
    = recon (rd x1) (rs x0 s) (rp x0 x1 s) 4 c := by
  pointwise [val_main_v389]
  simp only [at_v387, at_v388]
  exact recon_eq_sum (by decide) (rwt x0 x1 s 4) c

/-- The scores of the fifth round, the atoms already used marked below every score. -/
theorem at_v393 (n : Fin 512) : val_main_v393 (F := Ideal) x0 x1 (ix2 s n)
    = masked (rd x1) (rs x0 s) ⊥ (rp x0 x1 s) 4 n := by
  pointwise [val_main_v393, val_main_call5_v1, val_main_call5_v0, val_main_cst_31, val_main_v392, val_main_v391, val_main_v390]
  simp only [at_v251, at_v389, at_v4, low_at]
  exact score _ n

/-- The fifth atom's index, as a word. -/
theorem at_v394 : val_main_v394 (F := Ideal) x0 x1 (ix1 s) = BitVec.ofNat 32 (rp x0 x1 s 4).val := by
  pointwise [val_main_v394]
  unfold val_main_indices_33
  exact top_word x0 x1 (by decide) s (val_main_v393 (F := Ideal) x0 x1) _ (at_v393 x0 x1 s)

/-- The mark of the fifth atom. -/
theorem at_v400 (n : Fin 512) : val_main_v400 (F := Ideal) x0 x1 (ix2 s n)
    = if n = rp x0 x1 s 4 then 1#1 else 0#1 := by
  pointwise [val_main_v400, val_main_v398, val_main_v396, val_main_v395, val_main_v399, val_main_v397]
  simp only [at_v394, cmp_word]

/-- The marks of the atoms used after the fifth round. -/
theorem at_v401 (n : Fin 512) : val_main_v401 (F := Ideal) x0 x1 (ix2 s n)
    = if Used (rp x0 x1 s) 5 n then 1#1 else 0#1 := by
  pointwise [val_main_v401]
  simp only [at_v251, at_v400, used_step]

/-- The mark of the fifth atom, as a number. -/
theorem at_v402 (n : Fin 512) : val_main_v402 (F := Ideal) x0 x1 (ix2 s n)
    = if n = rp x0 x1 s 4 then 1 else 0 := by
  pointwise [val_main_v402]
  simp only [at_v400, mark_num']

/-- The dictionary with unit columns. -/
theorem at_v403 (n : Fin 512) (c : Fin 64) : val_main_v403 (F := Ideal) x1 (ix2 n c)
    = (rd x1 c n : EReal) := by
  pointwise [val_main_v403]
  simp only [at_v4]

/-- The fifth atom. -/
theorem at_v410 (c : Fin 64) : val_main_v410 (F := Ideal) x0 x1 (ix2 s c) = (rd x1 c (rp x0 x1 s 4) : EReal) := by
  unfold val_main_v410
  rw [gather_at _ _ s c (rp x0 x1 s 4), at_v403]
  pointwise [val_main_v409, val_main_v408, val_main_v405, val_main_v404, val_main_c_34, val_main_v407, val_main_v406, val_main_c_35]
  simp only [at_v394]
  exact wrap_word _

/-- The atoms picked so far, stacked. -/
theorem at_v416 (i : Fin 5) (c : Fin 64) : val_main_v416 (F := Ideal) x0 x1 (ix3 s i c)
    = (rd x1 c (rp x0 x1 s i) : EReal) := by
  pointwise [val_main_v416, val_main_v411, val_main_v412, val_main_v413, val_main_v414, val_main_v415]
  simp only [at_v31, at_v76, at_v150, at_v260, at_v410]
  fin_cases i <;> rfl

/-- The Gram matrix of the atoms picked so far. -/
theorem at_v428 (i j : Fin 5) : val_main_v428 (F := Ideal) x0 x1 (ix3 s i j)
    = (schur (rg x0 x1 s) 0 i j : EReal) := by
  pointwise [val_main_v428, val_main_v417, val_main_v427, val_main_v426, val_main_v425, val_main_v424, val_main_cst_37,
    val_main_v423, val_main_v422, val_main_v421, val_main_v418, val_main_v420, val_main_c_36, val_main_v419]
  simp only [at_v416]
  exact gram_all _ (by omega) (by omega)

/-- The products of the atoms picked so far with the signal. -/
theorem at_v429 (i : Fin 5) : val_main_v429 (F := Ideal) x0 x1 (ix2 s i)
    = rhs (rg x0 x1 s) (rb x0 x1 s) 0 i := by
  pointwise [val_main_v429]
  simp only [at_v416]
  rfl

/-- The matrix left after one elimination step. -/
theorem at_v443 (i j : Fin 4) : val_main_v443 (F := Ideal) x0 x1 (ix3 s i j)
    = (schur (rg x0 x1 s) 1 (1 + i) (1 + j) : EReal) := by
  pointwise [val_main_v443, val_main_v437, val_main_v442, val_main_v440, val_main_v438, val_main_v436, val_main_v432, val_main_v431,
    val_main_v435, val_main_v434, val_main_v433, val_main_v441, val_main_v439]
  simp only [at_v428, ← Nat.add_assoc, Nat.reduceAdd, Nat.add_zero, Fin.val_zero, Fin.val_one, Fin.isValue, Fin.coe_ofNat_eq_mod,
    Nat.reduceMod, Nat.zero_mod, m_eq, elim_step]

/-- The right-hand side left after one elimination step. -/
theorem at_v448 (i : Fin 4) : val_main_v448 (F := Ideal) x0 x1 (ix2 s i)
    = rhs (rg x0 x1 s) (rb x0 x1 s) 1 (1 + i) := by
  pointwise [val_main_v448, val_main_v444, val_main_v447, val_main_v436, val_main_v432, val_main_v431, val_main_v435, val_main_v434,
    val_main_v433, val_main_v446, val_main_v445]
  simp only [at_v429, at_v428, ← Nat.add_assoc, Nat.reduceAdd, Nat.add_zero, Fin.val_zero, Fin.val_one, Fin.isValue,
    Fin.coe_ofNat_eq_mod, Nat.reduceMod, Nat.zero_mod, m_eq, elim_rhs]

/-- The matrix left after two elimination steps. -/
theorem at_v461 (i j : Fin 3) : val_main_v461 (F := Ideal) x0 x1 (ix3 s i j)
    = (schur (rg x0 x1 s) 2 (2 + i) (2 + j) : EReal) := by
  pointwise [val_main_v461, val_main_v455, val_main_v460, val_main_v458, val_main_v456, val_main_v454, val_main_v450, val_main_v449,
    val_main_v453, val_main_v452, val_main_v451, val_main_v459, val_main_v457]
  simp only [at_v443, ← Nat.add_assoc, Nat.reduceAdd, Nat.add_zero, Fin.val_zero, Fin.val_one, Fin.isValue, Fin.coe_ofNat_eq_mod,
    Nat.reduceMod, Nat.zero_mod, m_eq, elim_step]

/-- The right-hand side left after two elimination steps. -/
theorem at_v466 (i : Fin 3) : val_main_v466 (F := Ideal) x0 x1 (ix2 s i)
    = rhs (rg x0 x1 s) (rb x0 x1 s) 2 (2 + i) := by
  pointwise [val_main_v466, val_main_v462, val_main_v465, val_main_v454, val_main_v450, val_main_v449, val_main_v453, val_main_v452,
    val_main_v451, val_main_v464, val_main_v463]
  simp only [at_v448, at_v443, ← Nat.add_assoc, Nat.reduceAdd, Nat.add_zero, Fin.val_zero, Fin.val_one, Fin.isValue,
    Fin.coe_ofNat_eq_mod, Nat.reduceMod, Nat.zero_mod, m_eq, elim_rhs]

/-- The matrix left after three elimination steps. -/
theorem at_v479 (i j : Fin 2) : val_main_v479 (F := Ideal) x0 x1 (ix3 s i j)
    = (schur (rg x0 x1 s) 3 (3 + i) (3 + j) : EReal) := by
  pointwise [val_main_v479, val_main_v473, val_main_v478, val_main_v476, val_main_v474, val_main_v472, val_main_v468, val_main_v467,
    val_main_v471, val_main_v470, val_main_v469, val_main_v477, val_main_v475]
  simp only [at_v461, ← Nat.add_assoc, Nat.reduceAdd, Nat.add_zero, Fin.val_zero, Fin.val_one, Fin.isValue, Fin.coe_ofNat_eq_mod,
    Nat.reduceMod, Nat.zero_mod, m_eq, elim_step]

/-- The right-hand side left after three elimination steps. -/
theorem at_v484 (i : Fin 2) : val_main_v484 (F := Ideal) x0 x1 (ix2 s i)
    = rhs (rg x0 x1 s) (rb x0 x1 s) 3 (3 + i) := by
  pointwise [val_main_v484, val_main_v480, val_main_v483, val_main_v472, val_main_v468, val_main_v467, val_main_v471, val_main_v470,
    val_main_v469, val_main_v482, val_main_v481]
  simp only [at_v466, at_v461, ← Nat.add_assoc, Nat.reduceAdd, Nat.add_zero, Fin.val_zero, Fin.val_one, Fin.isValue,
    Fin.coe_ofNat_eq_mod, Nat.reduceMod, Nat.zero_mod, m_eq, elim_rhs]

/-- Entry (4, 4) of the matrix after 4 elimination steps. -/
theorem at_v494 : val_main_v494 (F := Ideal) x0 x1 (ix3 s 0 0)
    = (schur (rg x0 x1 s) 4 4 4 : EReal) := by
  pointwise [val_main_v494, val_main_v490, val_main_v493, val_main_v491, val_main_v489, val_main_v486, val_main_v485, val_main_v488,
    val_main_v487, val_main_v492]
  simp only [at_v479, ← Nat.add_assoc, Nat.reduceAdd, Nat.add_zero, Fin.val_zero, Fin.val_one, Fin.isValue, Fin.coe_ofNat_eq_mod,
    Nat.reduceMod, Nat.zero_mod, m_eq, elim_step]

/-- Entry 4 of the right-hand side after 4 elimination steps. -/
theorem at_v498 : val_main_v498 (F := Ideal) x0 x1 (ix2 s 0)
    = rhs (rg x0 x1 s) (rb x0 x1 s) 4 4 := by
  pointwise [val_main_v498, val_main_v495, val_main_v497, val_main_v489, val_main_v486, val_main_v485, val_main_v488, val_main_v487,
    val_main_v496]
  simp only [at_v484, at_v479, ← Nat.add_assoc, Nat.reduceAdd, Nat.add_zero, Fin.val_zero, Fin.val_one, Fin.isValue,
    Fin.coe_ofNat_eq_mod, Nat.reduceMod, Nat.zero_mod, m_eq, elim_rhs]

/-- The fifth atom's weight in the refit over all five atoms. -/
theorem at_v501 : val_main_v501 (F := Ideal) x0 x1 (ix1 s)
    = rwt x0 x1 s 5 4 := by
  pointwise [val_main_v501, val_main_v499, val_main_v500]
  simp only [at_v498, at_v494, ← Nat.add_assoc, Nat.reduceAdd, Nat.add_zero, Fin.val_zero, Fin.val_one, Fin.isValue,
    Fin.coe_ofNat_eq_mod, Nat.reduceMod, Nat.zero_mod, u_0]

/-- The fourth atom's weight in the refit over all five atoms. -/
theorem at_v510 : val_main_v510 (F := Ideal) x0 x1 (ix1 s)
    = rwt x0 x1 s 5 3 := by
  pointwise [val_main_v510, val_main_v507, val_main_v503, val_main_v502, val_main_v506, val_main_v505, val_main_v504, val_main_v509,
    val_main_v508]
  simp only [at_v484, at_v479, at_v501, ← Nat.add_assoc, Nat.reduceAdd, Nat.add_zero, Fin.val_zero, Fin.val_one, Fin.isValue,
    Fin.coe_ofNat_eq_mod, Nat.reduceMod, Nat.zero_mod, u_1 (i := 3) (j := 4) (m := 5) _ rfl rfl]

/-- The third atom's weight in the refit over all five atoms. -/
theorem at_v523 : val_main_v523 (F := Ideal) x0 x1 (ix1 s)
    = rwt x0 x1 s 5 2 := by
  pointwise [val_main_v523, val_main_v520, val_main_v516, val_main_v512, val_main_v511, val_main_v515, val_main_v514, val_main_v513,
    val_main_v519, val_main_v518, val_main_v517, val_main_v522, val_main_v521]
  simp only [at_v466, at_v461, at_v510, at_v501, ← Nat.add_assoc, Nat.reduceAdd, Nat.add_zero, Fin.val_zero, Fin.val_one,
    Fin.isValue, Fin.coe_ofNat_eq_mod, Nat.reduceMod, Nat.zero_mod, u_2 (i := 2) (j := 3) (k := 4) (m := 5) _ rfl rfl rfl]

/-- The second atom's weight in the refit over all five atoms. -/
theorem at_v540 : val_main_v540 (F := Ideal) x0 x1 (ix1 s)
    = rwt x0 x1 s 5 1 := by
  pointwise [val_main_v540, val_main_v537, val_main_v533, val_main_v529, val_main_v525, val_main_v524, val_main_v528, val_main_v527,
    val_main_v526, val_main_v532, val_main_v531, val_main_v530, val_main_v536, val_main_v535, val_main_v534, val_main_v539,
    val_main_v538]
  simp only [at_v448, at_v443, at_v523, at_v510, at_v501, ← Nat.add_assoc, Nat.reduceAdd, Nat.add_zero, Fin.val_zero, Fin.val_one,
    Fin.isValue, Fin.coe_ofNat_eq_mod, Nat.reduceMod, Nat.zero_mod,
    u_3 (i := 1) (j := 2) (k := 3) (l := 4) (m := 5) _ rfl rfl rfl rfl]

/-- The first atom's weight in the refit over all five atoms. -/
theorem at_v561 : val_main_v561 (F := Ideal) x0 x1 (ix1 s)
    = rwt x0 x1 s 5 0 := by
  pointwise [val_main_v561, val_main_v558, val_main_v554, val_main_v550, val_main_v546, val_main_v542, val_main_v541, val_main_v545,
    val_main_v544, val_main_v543, val_main_v549, val_main_v548, val_main_v547, val_main_v553, val_main_v552, val_main_v551,
    val_main_v557, val_main_v556, val_main_v555, val_main_v560, val_main_v559]
  simp only [at_v429, at_v428, at_v540, at_v523, at_v510, at_v501, ← Nat.add_assoc, Nat.reduceAdd, Nat.add_zero, Fin.val_zero,
    Fin.val_one, Fin.isValue, Fin.coe_ofNat_eq_mod, Nat.reduceMod, Nat.zero_mod,
    u_4 (i := 0) (j := 1) (k := 2) (l := 3) (n := 4) (m := 5) _ rfl rfl rfl rfl rfl]

/-- The weights of all five atoms, each at its atom's place in the dictionary. -/
theorem at_v581 (n : Fin 512) : val_main_v581 (F := Ideal) x0 x1 (ix2 s n)
    = ∑ i ∈ Finset.range 5, rwt x0 x1 s 5 i * (if n = rp x0 x1 s i then 1 else 0) := by
  pointwise [val_main_v581, val_main_v577, val_main_v573, val_main_v569, val_main_v565, val_main_v430, val_main_cst_38,
    val_main_v564, val_main_v563, val_main_v562, val_main_v568, val_main_v567, val_main_v566, val_main_v572, val_main_v571,
    val_main_v570, val_main_v576, val_main_v575, val_main_v574, val_main_v580, val_main_v579, val_main_v578]
  simp only [at_v561, at_v23, at_v540, at_v68, at_v523, at_v142, at_v510, at_v252, at_v501, at_v402, Finset.sum_range_succ,
    Finset.sum_range_zero, zero_add]

end Cert.ReferenceIdeal.Read

end
-- ==== Proof.Lane.lean ====
/- One signal in one step of the grid: what the first rounds of the kernel compute, as the picked atoms, the entries of the
   Gram matrix during elimination and the weights. -/
module

public import proofs.«01_k».proof.Proof.Gen.KernelIdeal.Frame
public import proofs.«01_k».proof.Proof.Pick
public import Idealize.ShloMosaic.Lib.Pointwise
public import Idealize.ShloMosaic.Lib.ValueIdx

@[expose] public section

set_option maxRecDepth 16384

noncomputable section

namespace Cert.KernelIdeal.Gen

open Idealize.ShloMosaic Cert.Omp

/-- The normalized dictionary. -/
abbrev dict (x1 : Vec Ideal S64x512 .f32) : Fin 64 → Fin 512 → ℝ := unit fun c n => x1 (ix2 c n)

/-- Signal `s` of a block. -/
abbrev sg (x0 : Vec Ideal S1x64x2048 .f32) (s : Fin 2048) : Fin 64 → EReal := fun c => x0 (ix3 0 c s)

variable (x0 : Vec Ideal S1x64x2048 .f32) (x1 : Vec Ideal S64x512 .f32)

/-- The atoms of signal `s`. -/
abbrev pk (s : Fin 2048) : ℕ → Fin 512 := atom (dict x1) (sg x0 s)

/-- Their Gram matrix. -/
abbrev gm (s : Fin 2048) : ℕ → ℕ → ℝ := gramOf (dict x1) (pk x0 x1 s)

/-- Their products with the signal. -/
abbrev pj (s : Fin 2048) : ℕ → EReal := proj (dict x1) (sg x0 s) (pk x0 x1 s)

/-- The weight of atom `i` among the first `m`. -/
abbrev wt (s : Fin 2048) (m i : ℕ) : EReal := weight (dict x1) (sg x0 s) (pk x0 x1 s) m i

variable (n : Fin 512) (c : Fin 64) (s : Fin 2048)

/-- The load of the signals' block is the whole block. -/
theorem view_whole0 : View.ld x0 r0_1 = x0 := View.ld_unit_zero (h := by funext i; fin_cases i <;> rfl) ..

/-- The load of the dictionary is the whole dictionary. -/
theorem view_whole1 : View.ld x1 r0_0 = x1 := View.ld_unit_zero (h := by funext i; fin_cases i <;> rfl) ..

/-- The dictionary with unit columns. -/
theorem norm_at : k0_pay2 (F := Ideal) x1 (ix2 c n) = (dict x1 c n : EReal) := by
  pointwise [k0_pay2]
  exact unitE_coe (fun c n => x1 (ix2 c n)) c n

/-- The dictionary with unit columns. -/
theorem at_92 : k0_pay92 (F := Ideal) x0 x1 (ix2 c n) = (dict x1 c n : EReal) := by
  unfold k0_pay92
  pointwise [k0_pay3]
  rw [view_whole1, norm_at]

/-- The block's signal. -/
theorem at_93 : k0_pay93 (F := Ideal) x0 x1 (ix2 c s) = sg x0 s c := by
  unfold k0_pay93
  rw [view_whole0]
  pointwise [k0_pay4]

/-- The block's signal. -/
theorem at_94 : k0_pay94 (F := Ideal) x0 x1 (ix2 c s) = sg x0 s c := by
  unfold k0_pay94
  rw [view_whole0]
  pointwise [k0_pay5, k0_pay4]

/-- The row numbers, as words. -/
theorem at_91 : k0_pay91 (F := Ideal) x0 x1 (ix2 n s) = BitVec.ofNat 32 n.val := by
  pointwise [k0_pay91]

/-- The mark of the first atom. -/
theorem first_mark : k0_pay7 (F := Ideal) x1 x0 (ix2 n s) = if n = pk x0 x1 s 0 then 1#1 else 0#1 := by
  pointwise [k0_pay7]
  simp only [k0_pay3, k0_pay4]
  pointwise [k0_pay3, k0_pay4]
  simp only [norm_at]
  exact (congrArg (IntOp.cmpi .eq _) (round_word_0 fun n => by pointwise [k0_pay6])).trans (cmp_word _ _)

/-- The marks of the atoms used after the first round. -/
theorem at_95 : k0_pay95 (F := Ideal) x0 x1 (ix2 n s) = if Used (pk x0 x1 s) 1 n then 1#1 else 0#1 := by
  unfold k0_pay95
  rw [view_whole0, view_whole1]
  pointwise [k0_pay8, k0_pay6]
  rw [first_mark]
  exact used_first _ n

/-- The first atom. -/
theorem at_96 : k0_pay96 (F := Ideal) x0 x1 (ix2 c s) = (dict x1 c (pk x0 x1 s 0) : EReal) := by
  unfold k0_pay96
  rw [view_whole0, view_whole1]
  pointwise [k0_pay9, k0_pay3]
  simp only [norm_at, first_mark, mark_num, sum_mark]

/-- The first atom. -/
theorem at_97 : k0_pay97 (F := Ideal) x0 x1 (ix2 c s) = (dict x1 c (pk x0 x1 s 0) : EReal) := by
  unfold k0_pay97
  rw [view_whole0, view_whole1]
  pointwise [k0_pay10]
  simp only [norm_at, first_mark, mark_num, sum_mark]

/-- The squares of the first atom's entries. -/
theorem at_98 : k0_pay98 (F := Ideal) x0 x1 (ix2 c s)
    = (dict x1 c (pk x0 x1 s 0) : EReal) * (dict x1 c (pk x0 x1 s 0) : EReal) := by
  have h : k0_pay98 (F := Ideal) x0 x1 (ix2 c s) = k0_pay97 (F := Ideal) x0 x1 (ix2 c s) * k0_pay97 (F := Ideal) x0 x1 (ix2 c s) := by
    unfold k0_pay98 k0_pay97
    pointwise [k0_pay11]
  rw [h, at_97]

/-- Entry (0, 0) of the Gram matrix. -/
theorem at_99 : k0_pay99 (F := Ideal) x0 x1 (ix2 0 s) = (schur (gm x0 x1 s) 0 0 0 : EReal) := by
  unfold k0_pay99
  pointwise [k0_pay12]
  simp only [at_96, diagEps_coe, gram_diag]

/-- The first atom's product with the signal. -/
theorem at_100 : k0_pay100 (F := Ideal) x0 x1 (ix2 0 s) = rhs (gm x0 x1 s) (pj x0 x1 s) 0 0 := by
  unfold k0_pay100
  pointwise [k0_pay13]
  simp only [at_96, at_94, rhs_start]

end Cert.KernelIdeal.Gen

end
-- ==== Proof.Lane2.lean ====
module

public import proofs.«01_k».proof.Proof.Lane
public import Idealize.ShloMosaic.Lib.Pointwise
public import Idealize.ShloMosaic.Lib.ValueIdx

@[expose] public section

set_option maxRecDepth 16384

noncomputable section

namespace Cert.KernelIdeal.Gen

open Idealize.ShloMosaic Cert.Omp

variable (x0 : Vec Ideal S1x64x2048 .f32) (x1 : Vec Ideal S64x512 .f32) (n : Fin 512) (c : Fin 64) (s : Fin 2048)

/-! ### The second round -/

/-- The mark of the second atom. -/
theorem second_mark : k0_pay14 (F := Ideal) (k0_pay92 x0 x1) (k0_pay93 x0 x1) (k0_pay91 x0 x1) (k0_pay95 x0 x1) (k0_pay96 x0 x1) (k0_pay97 x0 x1)
    (k0_pay98 x0 x1) (ix2 n s) = if n = pk x0 x1 s 1 then 1#1 else 0#1 := by
  obtain ⟨v33, hv33⟩ : ∃ v, v = k0_pay95 (F := Ideal) x0 x1 := ⟨_, rfl⟩
  rw [← hv33]
  pointwise [k0_pay14]
  simp only [at_92, at_93, at_91, at_96, at_97, at_98, diagEps_coe, gram_diag, rhs_start (X := sg x0 s), w_first]
  exact (congrArg (IntOp.cmpi .eq _) (round_word (k := 1) (fun n => hv33 ▸ at_95 x0 x1 n s) (fun c => by simp [recon]))).trans (cmp_word _ _)

/-- The marks of the atoms used after the second round. -/
theorem at_101 : k0_pay101 (F := Ideal) x0 x1 (ix2 n s) = if Used (pk x0 x1 s) 2 n then 1#1 else 0#1 := by
  unfold k0_pay101
  pointwise [k0_pay15]
  rw [second_mark, at_95]
  exact used_step _ 1 n

/-- The second atom. -/
theorem at_102 : k0_pay102 (F := Ideal) x0 x1 (ix2 c s) = (dict x1 c (pk x0 x1 s 1) : EReal) := by
  unfold k0_pay102
  pointwise [k0_pay16]
  simp only [at_92, second_mark, mark_num, sum_mark]

/-- Entry (1, 0) of the Gram matrix. -/
theorem at_103 : k0_pay103 (F := Ideal) x0 x1 (ix2 0 s) = (schur (gm x0 x1 s) 0 1 0 : EReal) := by
  have h : k0_pay103 (F := Ideal) x0 x1 (ix2 0 s) = ∑ c : Fin 64, k0_pay102 (F := Ideal) x0 x1 (ix2 c s) * k0_pay96 (F := Ideal) x0 x1 (ix2 c s) := by
    unfold k0_pay103 k0_pay102
    pointwise [k0_pay17]
  rw [h]
  simp only [at_102, at_96]
  exact gram_off _ (by decide)

/-- Entry (1, 1) of the Gram matrix. -/
theorem at_105 : k0_pay105 (F := Ideal) x0 x1 (ix2 0 s) = (schur (gm x0 x1 s) 0 1 1 : EReal) := by
  have h : ∀ c : Fin 64, k0_pay104 (F := Ideal) x0 x1 (ix2 c s) = k0_pay102 (F := Ideal) x0 x1 (ix2 c s) * k0_pay102 (F := Ideal) x0 x1 (ix2 c s) := by
    intro c
    unfold k0_pay104 k0_pay102
    pointwise [k0_pay18]
  unfold k0_pay105
  pointwise [k0_pay19]
  simp only [h, at_102, diagEps_coe, gram_diag]

/-- The second atom's product with the signal. -/
theorem at_106 : k0_pay106 (F := Ideal) x0 x1 (ix2 0 s) = rhs (gm x0 x1 s) (pj x0 x1 s) 0 1 := by
  unfold k0_pay106
  pointwise [k0_pay20]
  simp only [at_102, at_94, rhs_start]

/-! ### The third round -/

/-- The third atom's index, as a word. -/
theorem at_107 : k0_pay107 (F := Ideal) x0 x1 (ix2 0 s) = BitVec.ofNat 32 (pk x0 x1 s 2).val := by
  have h : k0_pay19 (F := Ideal) (k0_pay104 x0 x1) (ix2 0 s) = _ := at_105 x0 x1 s
  have h' : k0_pay20 (F := Ideal) (k0_pay94 x0 x1) (k0_pay102 x0 x1) (ix2 0 s) = _ := at_106 x0 x1 s
  unfold k0_pay107
  obtain ⟨v80, hv80⟩ : ∃ v, v = k0_pay101 (F := Ideal) x0 x1 := ⟨_, rfl⟩
  rw [← hv80]
  pointwise [k0_pay21]
  simp only [h, h', at_92, at_93, at_91, at_96, at_102, at_99, at_100, at_103, r_eq, c_eq, c_step, y_step, Nat.reduceAdd, w_0, w_1 (i := 0) (j := 1) (m := 2) _ rfl rfl]
  exact round_word (k := 2) (fun n => hv80 ▸ at_101 x0 x1 n s) (fun c => by simp [recon, Finset.sum_range_succ])

end Cert.KernelIdeal.Gen

end
-- ==== Proof.Lane3.lean ====
/- The third and the fourth round of the kernel on one signal. -/
module

public import proofs.«01_k».proof.Proof.Lane2
public import Idealize.ShloMosaic.Lib.Pointwise
public import Idealize.ShloMosaic.Lib.ValueIdx

@[expose] public section

set_option maxRecDepth 16384

noncomputable section

namespace Cert.KernelIdeal.Gen

open Idealize.ShloMosaic Cert.Omp

variable (x0 : Vec Ideal S1x64x2048 .f32) (x1 : Vec Ideal S64x512 .f32) (n : Fin 512) (c : Fin 64) (s : Fin 2048)

/-! ### The atom of the third round and the refit of three -/

/-- The mark of the third atom. -/
theorem at_22 : k0_pay22 (k0_pay91 (F := Ideal) x0 x1) (k0_pay107 (F := Ideal) x0 x1) (ix2 n s)
    = if n = pk x0 x1 s 2 then 1#1 else 0#1 := by
  pointwise [k0_pay22]
  rw [at_91, at_107, cmp_word]

/-- The marks of the atoms used after the third round. -/
theorem at_23 : k0_pay23 (k0_pay91 (F := Ideal) x0 x1) (k0_pay101 (F := Ideal) x0 x1) (k0_pay107 (F := Ideal) x0 x1) (ix2 n s)
    = if Used (pk x0 x1 s) 3 n then 1#1 else 0#1 := by
  pointwise [k0_pay23]
  rw [at_22, at_101]
  exact used_step _ 2 n

/-- The marks of the atoms used after the third round. -/
theorem at_108 : k0_pay108 (F := Ideal) x0 x1 (ix2 n s) = if Used (pk x0 x1 s) 3 n then 1#1 else 0#1 := at_23 x0 x1 n s

/-- The third atom. -/
theorem at_24 : k0_pay24 (F := Ideal) (k0_pay92 (F := Ideal) x0 x1) (k0_pay91 (F := Ideal) x0 x1) (k0_pay107 (F := Ideal) x0 x1) (ix2 c s)
    = (dict x1 c (pk x0 x1 s 2) : EReal) := by
  pointwise [k0_pay24]
  simp only [at_92, at_91, at_107, at_22, mark_num, sum_mark]

/-- The third atom. -/
theorem at_109 : k0_pay109 (F := Ideal) x0 x1 (ix2 c s) = (dict x1 c (pk x0 x1 s 2) : EReal) := at_24 x0 x1 c s

/-- Entry (2, 0) of the Gram matrix. -/
theorem at_25 : k0_pay25 (F := Ideal) (k0_pay92 (F := Ideal) x0 x1) (k0_pay91 (F := Ideal) x0 x1) (k0_pay96 (F := Ideal) x0 x1) (k0_pay107 (F := Ideal) x0 x1) (ix2 0 s)
    = (schur (gm x0 x1 s) 0 2 0 : EReal) := by
  pointwise [k0_pay25]
  simp only [at_92, at_91, at_96, at_107, at_24]
  exact gram_off _ (by decide)

/-- Entry (2, 0) of the Gram matrix. -/
theorem at_110 : k0_pay110 (F := Ideal) x0 x1 (ix2 0 s) = (schur (gm x0 x1 s) 0 2 0 : EReal) := at_25 x0 x1 s

/-- Entry (2, 1) of the Gram matrix. -/
theorem at_26 : k0_pay26 (F := Ideal) (k0_pay92 (F := Ideal) x0 x1) (k0_pay91 (F := Ideal) x0 x1) (k0_pay102 (F := Ideal) x0 x1) (k0_pay107 (F := Ideal) x0 x1) (ix2 0 s)
    = (schur (gm x0 x1 s) 0 2 1 : EReal) := by
  pointwise [k0_pay26]
  simp only [at_92, at_91, at_102, at_107, at_24]
  exact gram_off _ (by decide)

/-- Entry (2, 1) of the Gram matrix. -/
theorem at_111 : k0_pay111 (F := Ideal) x0 x1 (ix2 0 s) = (schur (gm x0 x1 s) 0 2 1 : EReal) := at_26 x0 x1 s

/-- Entry (2, 2) of the Gram matrix. -/
theorem at_27 : k0_pay27 (F := Ideal) (k0_pay92 (F := Ideal) x0 x1) (k0_pay91 (F := Ideal) x0 x1) (k0_pay107 (F := Ideal) x0 x1) (ix2 0 s)
    = (schur (gm x0 x1 s) 0 2 2 : EReal) := by
  pointwise [k0_pay27]
  simp only [at_92, at_91, at_107, at_24, diagEps_coe, gram_diag]

/-- Entry (2, 2) of the Gram matrix. -/
theorem at_112 : k0_pay112 (F := Ideal) x0 x1 (ix2 0 s) = (schur (gm x0 x1 s) 0 2 2 : EReal) := at_27 x0 x1 s

/-- The third atom's product with the signal. -/
theorem at_28 : k0_pay28 (F := Ideal) (k0_pay92 (F := Ideal) x0 x1) (k0_pay94 (F := Ideal) x0 x1) (k0_pay91 (F := Ideal) x0 x1) (k0_pay107 (F := Ideal) x0 x1) (ix2 0 s)
    = rhs (gm x0 x1 s) (pj x0 x1 s) 0 2 := by
  pointwise [k0_pay28]
  simp only [at_92, at_94, at_91, at_107, at_24, rhs_start]

/-- The third atom's product with the signal. -/
theorem at_113 : k0_pay113 (F := Ideal) x0 x1 (ix2 0 s) = rhs (gm x0 x1 s) (pj x0 x1 s) 0 2 := at_28 x0 x1 s

/-- The reciprocal of the Cholesky factor's diagonal entry 0. -/
theorem at_29 : k0_pay29 (F := Ideal) (k0_pay99 (F := Ideal) x0 x1) (ix2 0 s)
    = (rdiag (gm x0 x1 s) 0 : EReal) := by
  pointwise [k0_pay29]
  simp only [at_99, r_eq, c_eq, c_step, y_step, Nat.reduceAdd]

/-- The reciprocal of the Cholesky factor's diagonal entry 0. -/
theorem at_114 : k0_pay114 (F := Ideal) x0 x1 (ix2 0 s) = (rdiag (gm x0 x1 s) 0 : EReal) := at_29 x0 x1 s

/-- Entry (1, 0) of the Cholesky factor. -/
theorem at_30 : k0_pay30 (F := Ideal) (k0_pay99 (F := Ideal) x0 x1) (k0_pay103 (F := Ideal) x0 x1) (ix2 0 s)
    = (chol (gm x0 x1 s) 1 0 : EReal) := by
  pointwise [k0_pay30]
  simp only [at_99, at_103, at_29, r_eq, c_eq, c_step, y_step, Nat.reduceAdd]

/-- Entry (1, 0) of the Cholesky factor. -/
theorem at_115 : k0_pay115 (F := Ideal) x0 x1 (ix2 0 s) = (chol (gm x0 x1 s) 1 0 : EReal) := at_30 x0 x1 s

/-- The reciprocal of the Cholesky factor's diagonal entry 1. -/
theorem at_31 : k0_pay31 (F := Ideal) (k0_pay99 (F := Ideal) x0 x1) (k0_pay103 (F := Ideal) x0 x1) (k0_pay105 (F := Ideal) x0 x1) (ix2 0 s)
    = (rdiag (gm x0 x1 s) 1 : EReal) := by
  pointwise [k0_pay31]
  simp only [at_99, at_103, at_105, at_30, r_eq, c_eq, c_step, y_step, Nat.reduceAdd]

/-- The reciprocal of the Cholesky factor's diagonal entry 1. -/
theorem at_116 : k0_pay116 (F := Ideal) x0 x1 (ix2 0 s) = (rdiag (gm x0 x1 s) 1 : EReal) := at_31 x0 x1 s

/-- Entry (2, 0) of the Cholesky factor. -/
theorem at_32 : k0_pay32 (F := Ideal) (k0_pay92 (F := Ideal) x0 x1) (k0_pay91 (F := Ideal) x0 x1) (k0_pay96 (F := Ideal) x0 x1) (k0_pay99 (F := Ideal) x0 x1) (k0_pay107 (F := Ideal) x0 x1) (ix2 0 s)
    = (chol (gm x0 x1 s) 2 0 : EReal) := by
  pointwise [k0_pay32]
  simp only [at_92, at_91, at_96, at_99, at_107, at_25, at_29, r_eq, c_eq, c_step, y_step, Nat.reduceAdd]

/-- Entry (2, 0) of the Cholesky factor. -/
theorem at_117 : k0_pay117 (F := Ideal) x0 x1 (ix2 0 s) = (chol (gm x0 x1 s) 2 0 : EReal) := at_32 x0 x1 s

/-- Entry (2, 1) of the Cholesky factor. -/
theorem at_33 : k0_pay33 (F := Ideal) (k0_pay92 (F := Ideal) x0 x1) (k0_pay91 (F := Ideal) x0 x1) (k0_pay96 (F := Ideal) x0 x1) (k0_pay99 (F := Ideal) x0 x1) (k0_pay102 (F := Ideal) x0 x1) (k0_pay103 (F := Ideal) x0 x1) (k0_pay105 (F := Ideal) x0 x1) (k0_pay107 (F := Ideal) x0 x1) (ix2 0 s)
    = (chol (gm x0 x1 s) 2 1 : EReal) := by
  pointwise [k0_pay33]
  simp only [at_92, at_91, at_96, at_99, at_102, at_103, at_105, at_107, at_32, at_30, at_26, at_31, r_eq, c_eq, c_step, y_step, Nat.reduceAdd]

/-- Entry (2, 1) of the Cholesky factor. -/
theorem at_118 : k0_pay118 (F := Ideal) x0 x1 (ix2 0 s) = (chol (gm x0 x1 s) 2 1 : EReal) := at_33 x0 x1 s

/-- Entry 0 of the forward substitution. -/
theorem at_34 : k0_pay34 (F := Ideal) (k0_pay99 (F := Ideal) x0 x1) (k0_pay100 (F := Ideal) x0 x1) (ix2 0 s)
    = rhs (gm x0 x1 s) (pj x0 x1 s) 0 0 * (rdiag (gm x0 x1 s) 0 : EReal) := by
  pointwise [k0_pay34]
  simp only [at_99, at_100, at_29, r_eq, c_eq, c_step, y_step, Nat.reduceAdd]

/-- Entry 0 of the forward substitution. -/
theorem at_119 : k0_pay119 (F := Ideal) x0 x1 (ix2 0 s) = rhs (gm x0 x1 s) (pj x0 x1 s) 0 0 * (rdiag (gm x0 x1 s) 0 : EReal) := at_34 x0 x1 s

/-- Entry 1 of the forward substitution. -/
theorem at_35 : k0_pay35 (F := Ideal) (k0_pay99 (F := Ideal) x0 x1) (k0_pay100 (F := Ideal) x0 x1) (k0_pay103 (F := Ideal) x0 x1) (k0_pay105 (F := Ideal) x0 x1) (k0_pay106 (F := Ideal) x0 x1) (ix2 0 s)
    = rhs (gm x0 x1 s) (pj x0 x1 s) 1 1 * (rdiag (gm x0 x1 s) 1 : EReal) := by
  pointwise [k0_pay35]
  simp only [at_99, at_100, at_103, at_105, at_106, at_30, at_34, at_31, r_eq, c_eq, c_step, y_step, Nat.reduceAdd]

/-- Entry 1 of the forward substitution. -/
theorem at_120 : k0_pay120 (F := Ideal) x0 x1 (ix2 0 s) = rhs (gm x0 x1 s) (pj x0 x1 s) 1 1 * (rdiag (gm x0 x1 s) 1 : EReal) := at_35 x0 x1 s

/-- The third atom's weight in the refit over the first three atoms. -/
theorem at_36 : k0_pay36 (F := Ideal) (k0_pay92 (F := Ideal) x0 x1) (k0_pay94 (F := Ideal) x0 x1) (k0_pay91 (F := Ideal) x0 x1) (k0_pay96 (F := Ideal) x0 x1) (k0_pay99 (F := Ideal) x0 x1) (k0_pay100 (F := Ideal) x0 x1) (k0_pay102 (F := Ideal) x0 x1) (k0_pay103 (F := Ideal) x0 x1) (k0_pay105 (F := Ideal) x0 x1) (k0_pay106 (F := Ideal) x0 x1) (k0_pay107 (F := Ideal) x0 x1) (ix2 0 s)
    = wt x0 x1 s 3 2 := by
  pointwise [k0_pay36]
  simp only [at_92, at_94, at_91, at_96, at_99, at_100, at_102, at_103, at_105, at_106, at_107, at_32, at_27, at_33, at_34, at_28, at_35, r_eq, c_eq, c_step, y_step, Nat.reduceAdd, w_0]

/-- The third atom's weight in the refit over the first three atoms. -/
theorem at_121 : k0_pay121 (F := Ideal) x0 x1 (ix2 0 s) = wt x0 x1 s 3 2 := at_36 x0 x1 s

/-! ### The atom of the fourth round -/

/-- The mark of the fourth atom. -/
theorem at_37 : k0_pay37 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) (ix2 n s)
    = if n = pk x0 x1 s 3 then 1#1 else 0#1 := by
  obtain ⟨v, hv⟩ : ∃ v, v = k0_pay108 (F := Ideal) x0 x1 := ⟨_, rfl⟩
  rw [← hv]
  pointwise [k0_pay37]
  simp only [at_92, at_93, at_91, at_96, at_102, at_109, at_114, at_115, at_116, at_117, at_118, at_119, at_120, at_121, r_eq, c_eq, c_step, y_step, Nat.reduceAdd, w_1 (i := 1) (j := 2) (m := 3) _ rfl rfl, w_2 (i := 0) (j := 1) (k := 2) (m := 3) _ rfl rfl rfl]
  exact (congrArg (IntOp.cmpi .eq _) (round_word (k := 3) (fun n => hv ▸ at_108 x0 x1 n s) (fun c => by simp [recon, Finset.sum_range_succ]))).trans (cmp_word _ _)

/-- The marks of the atoms used after the fourth round. -/
theorem at_38 : k0_pay38 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) (ix2 n s)
    = if Used (pk x0 x1 s) 4 n then 1#1 else 0#1 := by
  pointwise [k0_pay38]
  rw [at_37, at_108]
  exact used_step _ 3 n

/-- The fourth atom. -/
theorem at_39 : k0_pay39 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) (ix2 c s)
    = (dict x1 c (pk x0 x1 s 3) : EReal) := by
  pointwise [k0_pay39]
  simp only [at_92, at_93, at_91, at_96, at_102, at_109, at_114, at_115, at_116, at_117, at_118, at_119, at_120, at_121, at_37, mark_num, sum_mark]

/-- The fourth atom. -/
theorem at_122 : k0_pay122 (F := Ideal) x0 x1 (ix2 c s) = (dict x1 c (pk x0 x1 s 3) : EReal) := at_39 x0 x1 c s

/-- Entry (3, 0) of the Gram matrix. -/
theorem at_40 : k0_pay40 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) (ix2 0 s)
    = (schur (gm x0 x1 s) 0 3 0 : EReal) := by
  pointwise [k0_pay40]
  simp only [at_92, at_93, at_91, at_96, at_102, at_109, at_114, at_115, at_116, at_117, at_118, at_119, at_120, at_121, at_39]
  exact gram_off _ (by decide)

/-- Entry (3, 0) of the Gram matrix. -/
theorem at_123 : k0_pay123 (F := Ideal) x0 x1 (ix2 0 s) = (schur (gm x0 x1 s) 0 3 0 : EReal) := at_40 x0 x1 s

/-- Entry (3, 1) of the Gram matrix. -/
theorem at_41 : k0_pay41 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) (ix2 0 s)
    = (schur (gm x0 x1 s) 0 3 1 : EReal) := by
  pointwise [k0_pay41]
  simp only [at_92, at_93, at_91, at_96, at_102, at_109, at_114, at_115, at_116, at_117, at_118, at_119, at_120, at_121, at_39]
  exact gram_off _ (by decide)

/-- Entry (3, 1) of the Gram matrix. -/
theorem at_124 : k0_pay124 (F := Ideal) x0 x1 (ix2 0 s) = (schur (gm x0 x1 s) 0 3 1 : EReal) := at_41 x0 x1 s

/-- Entry (3, 2) of the Gram matrix. -/
theorem at_42 : k0_pay42 (F := Ideal) (k0_pay109 (F := Ideal) x0 x1) (k0_pay122 (F := Ideal) x0 x1) (ix2 0 s)
    = (schur (gm x0 x1 s) 0 3 2 : EReal) := by
  pointwise [k0_pay42]
  simp only [at_109, at_122]
  exact gram_off _ (by decide)

/-- Entry (3, 2) of the Gram matrix. -/
theorem at_125 : k0_pay125 (F := Ideal) x0 x1 (ix2 0 s) = (schur (gm x0 x1 s) 0 3 2 : EReal) := at_42 x0 x1 s

/-- Entry (3, 3) of the Gram matrix. -/
theorem at_43 : k0_pay43 (F := Ideal) (k0_pay122 (F := Ideal) x0 x1) (ix2 0 s)
    = (schur (gm x0 x1 s) 0 3 3 : EReal) := by
  pointwise [k0_pay43]
  simp only [at_122, diagEps_coe, gram_diag]

/-- Entry (3, 3) of the Gram matrix. -/
theorem at_126 : k0_pay126 (F := Ideal) x0 x1 (ix2 0 s) = (schur (gm x0 x1 s) 0 3 3 : EReal) := at_43 x0 x1 s

/-- The fourth atom's product with the signal. -/
theorem at_44 : k0_pay44 (F := Ideal) (k0_pay94 (F := Ideal) x0 x1) (k0_pay122 (F := Ideal) x0 x1) (ix2 0 s)
    = rhs (gm x0 x1 s) (pj x0 x1 s) 0 3 := by
  pointwise [k0_pay44]
  simp only [at_94, at_122, rhs_start]

/-- The fourth atom's product with the signal. -/
theorem at_127 : k0_pay127 (F := Ideal) x0 x1 (ix2 0 s) = rhs (gm x0 x1 s) (pj x0 x1 s) 0 3 := at_44 x0 x1 s

end Cert.KernelIdeal.Gen

end
-- ==== Proof.Lane4.lean ====
/- The fifth round of the kernel on one signal and the last refit: the atom, the elimination and the weights. -/
module

public import proofs.«01_k».proof.Proof.Lane3
public import Idealize.ShloMosaic.Lib.Pointwise
public import Idealize.ShloMosaic.Lib.ValueIdx

@[expose] public section

set_option maxRecDepth 16384

noncomputable section

namespace Cert.KernelIdeal.Gen

open Idealize.ShloMosaic Cert.Omp

variable (x0 : Vec Ideal S1x64x2048 .f32) (x1 : Vec Ideal S64x512 .f32) (n : Fin 512) (c : Fin 64) (s : Fin 2048)

/-! ### The refit of four and the atom of the fifth round -/

/-- The reciprocal of the Cholesky factor's diagonal entry 0. -/
theorem at_45 : k0_pay45 (F := Ideal) (k0_pay99 (F := Ideal) x0 x1) (ix2 0 s)
    = (rdiag (gm x0 x1 s) 0 : EReal) := by
  pointwise [k0_pay45]
  simp only [at_99, r_eq, c_eq, c_step, y_step, Nat.reduceAdd]

/-- Entry (1, 0) of the Cholesky factor. -/
theorem at_46 : k0_pay46 (F := Ideal) (k0_pay99 (F := Ideal) x0 x1) (k0_pay103 (F := Ideal) x0 x1) (ix2 0 s)
    = (chol (gm x0 x1 s) 1 0 : EReal) := by
  pointwise [k0_pay46]
  simp only [at_99, at_103, at_45, r_eq, c_eq, c_step, y_step, Nat.reduceAdd]

/-- The reciprocal of the Cholesky factor's diagonal entry 1. -/
theorem at_47 : k0_pay47 (F := Ideal) (k0_pay99 (F := Ideal) x0 x1) (k0_pay103 (F := Ideal) x0 x1) (k0_pay105 (F := Ideal) x0 x1) (ix2 0 s)
    = (rdiag (gm x0 x1 s) 1 : EReal) := by
  pointwise [k0_pay47]
  simp only [at_99, at_103, at_105, at_46, r_eq, c_eq, c_step, y_step, Nat.reduceAdd]

/-- Entry (2, 0) of the Cholesky factor. -/
theorem at_48 : k0_pay48 (F := Ideal) (k0_pay99 (F := Ideal) x0 x1) (k0_pay110 (F := Ideal) x0 x1) (ix2 0 s)
    = (chol (gm x0 x1 s) 2 0 : EReal) := by
  pointwise [k0_pay48]
  simp only [at_99, at_110, at_45, r_eq, c_eq, c_step, y_step, Nat.reduceAdd]

/-- Entry (2, 1) of the Cholesky factor. -/
theorem at_49 : k0_pay49 (F := Ideal) (k0_pay99 (F := Ideal) x0 x1) (k0_pay103 (F := Ideal) x0 x1) (k0_pay105 (F := Ideal) x0 x1) (k0_pay110 (F := Ideal) x0 x1) (k0_pay111 (F := Ideal) x0 x1) (ix2 0 s)
    = (chol (gm x0 x1 s) 2 1 : EReal) := by
  pointwise [k0_pay49]
  simp only [at_99, at_103, at_105, at_110, at_111, at_48, at_46, at_47, r_eq, c_eq, c_step, y_step, Nat.reduceAdd]

/-- The reciprocal of the Cholesky factor's diagonal entry 2. -/
theorem at_50 : k0_pay50 (F := Ideal) (k0_pay99 (F := Ideal) x0 x1) (k0_pay103 (F := Ideal) x0 x1) (k0_pay105 (F := Ideal) x0 x1) (k0_pay110 (F := Ideal) x0 x1) (k0_pay111 (F := Ideal) x0 x1) (k0_pay112 (F := Ideal) x0 x1) (ix2 0 s)
    = (rdiag (gm x0 x1 s) 2 : EReal) := by
  pointwise [k0_pay50]
  simp only [at_99, at_103, at_105, at_110, at_111, at_112, at_48, at_49, r_eq, c_eq, c_step, y_step, Nat.reduceAdd]

/-- Entry (3, 0) of the Cholesky factor. -/
theorem at_51 : k0_pay51 (F := Ideal) (k0_pay99 (F := Ideal) x0 x1) (k0_pay123 (F := Ideal) x0 x1) (ix2 0 s)
    = (chol (gm x0 x1 s) 3 0 : EReal) := by
  pointwise [k0_pay51]
  simp only [at_99, at_123, at_45, r_eq, c_eq, c_step, y_step, Nat.reduceAdd]

/-- Entry (3, 1) of the Cholesky factor. -/
theorem at_52 : k0_pay52 (F := Ideal) (k0_pay99 (F := Ideal) x0 x1) (k0_pay103 (F := Ideal) x0 x1) (k0_pay105 (F := Ideal) x0 x1) (k0_pay123 (F := Ideal) x0 x1) (k0_pay124 (F := Ideal) x0 x1) (ix2 0 s)
    = (chol (gm x0 x1 s) 3 1 : EReal) := by
  pointwise [k0_pay52]
  simp only [at_99, at_103, at_105, at_123, at_124, at_51, at_46, at_47, r_eq, c_eq, c_step, y_step, Nat.reduceAdd]

/-- Entry (3, 2) of the Cholesky factor. -/
theorem at_53 : k0_pay53 (F := Ideal) (k0_pay99 (F := Ideal) x0 x1) (k0_pay103 (F := Ideal) x0 x1) (k0_pay105 (F := Ideal) x0 x1) (k0_pay109 (F := Ideal) x0 x1) (k0_pay110 (F := Ideal) x0 x1) (k0_pay111 (F := Ideal) x0 x1) (k0_pay112 (F := Ideal) x0 x1) (k0_pay122 (F := Ideal) x0 x1) (k0_pay123 (F := Ideal) x0 x1) (k0_pay124 (F := Ideal) x0 x1) (ix2 0 s)
    = (chol (gm x0 x1 s) 3 2 : EReal) := by
  pointwise [k0_pay53]
  simp only [at_99, at_103, at_105, at_109, at_110, at_111, at_112, at_122, at_123, at_124, at_51, at_48, at_42, at_52, at_49, at_50, r_eq, c_eq, c_step, y_step, Nat.reduceAdd]

/-- The reciprocal of the Cholesky factor's diagonal entry 3. -/
theorem at_54 : k0_pay54 (F := Ideal) (k0_pay99 (F := Ideal) x0 x1) (k0_pay103 (F := Ideal) x0 x1) (k0_pay105 (F := Ideal) x0 x1) (k0_pay109 (F := Ideal) x0 x1) (k0_pay110 (F := Ideal) x0 x1) (k0_pay111 (F := Ideal) x0 x1) (k0_pay112 (F := Ideal) x0 x1) (k0_pay122 (F := Ideal) x0 x1) (k0_pay123 (F := Ideal) x0 x1) (k0_pay124 (F := Ideal) x0 x1) (ix2 0 s)
    = (rdiag (gm x0 x1 s) 3 : EReal) := by
  pointwise [k0_pay54]
  simp only [at_99, at_103, at_105, at_109, at_110, at_111, at_112, at_122, at_123, at_124, at_51, at_43, at_52, at_53, r_eq, c_eq, c_step, y_step, Nat.reduceAdd]

/-- Entry 0 of the forward substitution. -/
theorem at_55 : k0_pay55 (F := Ideal) (k0_pay99 (F := Ideal) x0 x1) (k0_pay100 (F := Ideal) x0 x1) (ix2 0 s)
    = rhs (gm x0 x1 s) (pj x0 x1 s) 0 0 * (rdiag (gm x0 x1 s) 0 : EReal) := by
  pointwise [k0_pay55]
  simp only [at_99, at_100, at_45, r_eq, c_eq, c_step, y_step, Nat.reduceAdd]

/-- Entry 1 of the right-hand side after 1 elimination step. -/
theorem at_56 : k0_pay56 (F := Ideal) (k0_pay99 (F := Ideal) x0 x1) (k0_pay100 (F := Ideal) x0 x1) (k0_pay103 (F := Ideal) x0 x1) (k0_pay106 (F := Ideal) x0 x1) (ix2 0 s)
    = rhs (gm x0 x1 s) (pj x0 x1 s) 1 1 := by
  pointwise [k0_pay56]
  simp only [at_99, at_100, at_103, at_106, at_46, at_55, r_eq, c_eq, c_step, y_step, Nat.reduceAdd]

/-- The scores of the fifth round, the atoms already used given the score -1. -/
theorem at_57 : k0_pay57 (F := Ideal) (k0_pay92 (F := Ideal) x0 x1) (k0_pay93 (F := Ideal) x0 x1) (k0_pay96 (F := Ideal) x0 x1) (k0_pay102 (F := Ideal) x0 x1) (k0_pay109 (F := Ideal) x0 x1) (k0_pay113 (F := Ideal) x0 x1) (k0_pay38 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1)) (k0_pay122 (F := Ideal) x0 x1) (k0_pay127 (F := Ideal) x0 x1) (k0_pay45 (F := Ideal) (k0_pay99 (F := Ideal) x0 x1)) (k0_pay46 (F := Ideal) (k0_pay99 (F := Ideal) x0 x1) (k0_pay103 (F := Ideal) x0 x1)) (k0_pay47 (F := Ideal) (k0_pay99 (F := Ideal) x0 x1) (k0_pay103 (F := Ideal) x0 x1) (k0_pay105 (F := Ideal) x0 x1)) (k0_pay48 (F := Ideal) (k0_pay99 (F := Ideal) x0 x1) (k0_pay110 (F := Ideal) x0 x1)) (k0_pay49 (F := Ideal) (k0_pay99 (F := Ideal) x0 x1) (k0_pay103 (F := Ideal) x0 x1) (k0_pay105 (F := Ideal) x0 x1) (k0_pay110 (F := Ideal) x0 x1) (k0_pay111 (F := Ideal) x0 x1)) (k0_pay50 (F := Ideal) (k0_pay99 (F := Ideal) x0 x1) (k0_pay103 (F := Ideal) x0 x1) (k0_pay105 (F := Ideal) x0 x1) (k0_pay110 (F := Ideal) x0 x1) (k0_pay111 (F := Ideal) x0 x1) (k0_pay112 (F := Ideal) x0 x1)) (k0_pay51 (F := Ideal) (k0_pay99 (F := Ideal) x0 x1) (k0_pay123 (F := Ideal) x0 x1)) (k0_pay52 (F := Ideal) (k0_pay99 (F := Ideal) x0 x1) (k0_pay103 (F := Ideal) x0 x1) (k0_pay105 (F := Ideal) x0 x1) (k0_pay123 (F := Ideal) x0 x1) (k0_pay124 (F := Ideal) x0 x1)) (k0_pay53 (F := Ideal) (k0_pay99 (F := Ideal) x0 x1) (k0_pay103 (F := Ideal) x0 x1) (k0_pay105 (F := Ideal) x0 x1) (k0_pay109 (F := Ideal) x0 x1) (k0_pay110 (F := Ideal) x0 x1) (k0_pay111 (F := Ideal) x0 x1) (k0_pay112 (F := Ideal) x0 x1) (k0_pay122 (F := Ideal) x0 x1) (k0_pay123 (F := Ideal) x0 x1) (k0_pay124 (F := Ideal) x0 x1)) (k0_pay54 (F := Ideal) (k0_pay99 (F := Ideal) x0 x1) (k0_pay103 (F := Ideal) x0 x1) (k0_pay105 (F := Ideal) x0 x1) (k0_pay109 (F := Ideal) x0 x1) (k0_pay110 (F := Ideal) x0 x1) (k0_pay111 (F := Ideal) x0 x1) (k0_pay112 (F := Ideal) x0 x1) (k0_pay122 (F := Ideal) x0 x1) (k0_pay123 (F := Ideal) x0 x1) (k0_pay124 (F := Ideal) x0 x1)) (k0_pay55 (F := Ideal) (k0_pay99 (F := Ideal) x0 x1) (k0_pay100 (F := Ideal) x0 x1)) (k0_pay56 (F := Ideal) (k0_pay99 (F := Ideal) x0 x1) (k0_pay100 (F := Ideal) x0 x1) (k0_pay103 (F := Ideal) x0 x1) (k0_pay106 (F := Ideal) x0 x1)) (ix2 n s)
    = Scalar.select (if Used (pk x0 x1 s) 4 n then 1#1 else 0#1) (Ideal.ofBits .f32 3212836864#32 : EReal)
      (FloatOps.absf (F := Ideal) (φ := .f32) (∑ c, (dict x1 c n : EReal) * (sg x0 s c - recon (dict x1) (sg x0 s) (pk x0 x1 s) 4 c))) := by
  obtain ⟨v, hv⟩ : ∃ v, v = k0_pay38 (F := Ideal) (k0_pay92 (F := Ideal) x0 x1) (k0_pay93 (F := Ideal) x0 x1) (k0_pay91 (F := Ideal) x0 x1) (k0_pay96 (F := Ideal) x0 x1) (k0_pay102 (F := Ideal) x0 x1) (k0_pay108 (F := Ideal) x0 x1) (k0_pay109 (F := Ideal) x0 x1) (k0_pay114 (F := Ideal) x0 x1) (k0_pay115 (F := Ideal) x0 x1) (k0_pay116 (F := Ideal) x0 x1) (k0_pay117 (F := Ideal) x0 x1) (k0_pay118 (F := Ideal) x0 x1) (k0_pay119 (F := Ideal) x0 x1) (k0_pay120 (F := Ideal) x0 x1) (k0_pay121 (F := Ideal) x0 x1) := ⟨_, rfl⟩
  rw [← hv]
  pointwise [k0_pay57]
  simp only [at_92, at_93, at_96, at_102, at_109, at_113, at_122, at_127, at_45, at_46, at_47, at_48, at_49, at_50, at_51, at_52, at_53, at_54, at_55, at_56, r_eq, c_eq, c_step, y_step, Nat.reduceAdd, w_0, w_1 (i := 2) (j := 3) (m := 4) _ rfl rfl, w_2 (i := 1) (j := 2) (k := 3) (m := 4) _ rfl rfl rfl, w_3 (i := 0) (j := 1) (k := 2) (l := 3) (m := 4) _ rfl rfl rfl rfl]
  rw [hv, at_38]
  simp only [recon, Finset.sum_range_succ, Finset.sum_range_zero, zero_add]

/-- The scores of the fifth round, the atoms already used given the score -1. -/
theorem at_128 : k0_pay128 (F := Ideal) x0 x1 (ix2 n s) = Scalar.select (if Used (pk x0 x1 s) 4 n then 1#1 else 0#1) (Ideal.ofBits .f32 3212836864#32 : EReal)
      (FloatOps.absf (F := Ideal) (φ := .f32) (∑ c, (dict x1 c n : EReal) * (sg x0 s c - recon (dict x1) (sg x0 s) (pk x0 x1 s) 4 c))) := at_57 x0 x1 n s

/-- The fifth atom. -/
theorem at_58 : k0_pay58 (F := Ideal) (k0_pay92 (F := Ideal) x0 x1) (k0_pay91 (F := Ideal) x0 x1) (k0_pay128 (F := Ideal) x0 x1) (ix2 c s)
    = (dict x1 c (pk x0 x1 s 4) : EReal) := by
  pointwise [k0_pay58]
  have hw := round_word (D := dict x1) (X := sg x0 s) (k := 4) (fun _ => rfl) (fun _ => rfl)
  simp only [at_92, at_91, at_128, hw, cmp_word, mark_num, sum_mark]

/-- Entry (4, 0) of the Gram matrix. -/
theorem at_59 : k0_pay59 (F := Ideal) (k0_pay92 (F := Ideal) x0 x1) (k0_pay91 (F := Ideal) x0 x1) (k0_pay96 (F := Ideal) x0 x1) (k0_pay128 (F := Ideal) x0 x1) (ix2 0 s)
    = (schur (gm x0 x1 s) 0 4 0 : EReal) := by
  pointwise [k0_pay59]
  simp only [at_92, at_91, at_96, at_58]
  exact gram_off _ (by decide)

/-- Entry (4, 0) of the Gram matrix. -/
theorem at_129 : k0_pay129 (F := Ideal) x0 x1 (ix2 0 s) = (schur (gm x0 x1 s) 0 4 0 : EReal) := at_59 x0 x1 s

/-- Entry (4, 1) of the Gram matrix. -/
theorem at_60 : k0_pay60 (F := Ideal) (k0_pay92 (F := Ideal) x0 x1) (k0_pay91 (F := Ideal) x0 x1) (k0_pay102 (F := Ideal) x0 x1) (k0_pay128 (F := Ideal) x0 x1) (ix2 0 s)
    = (schur (gm x0 x1 s) 0 4 1 : EReal) := by
  pointwise [k0_pay60]
  simp only [at_92, at_91, at_102, at_58]
  exact gram_off _ (by decide)

/-- Entry (4, 1) of the Gram matrix. -/
theorem at_130 : k0_pay130 (F := Ideal) x0 x1 (ix2 0 s) = (schur (gm x0 x1 s) 0 4 1 : EReal) := at_60 x0 x1 s

/-- Entry (4, 2) of the Gram matrix. -/
theorem at_61 : k0_pay61 (F := Ideal) (k0_pay92 (F := Ideal) x0 x1) (k0_pay91 (F := Ideal) x0 x1) (k0_pay109 (F := Ideal) x0 x1) (k0_pay128 (F := Ideal) x0 x1) (ix2 0 s)
    = (schur (gm x0 x1 s) 0 4 2 : EReal) := by
  pointwise [k0_pay61]
  simp only [at_92, at_91, at_109, at_58]
  exact gram_off _ (by decide)

/-- Entry (4, 2) of the Gram matrix. -/
theorem at_131 : k0_pay131 (F := Ideal) x0 x1 (ix2 0 s) = (schur (gm x0 x1 s) 0 4 2 : EReal) := at_61 x0 x1 s

/-- Entry (4, 3) of the Gram matrix. -/
theorem at_62 : k0_pay62 (F := Ideal) (k0_pay92 (F := Ideal) x0 x1) (k0_pay91 (F := Ideal) x0 x1) (k0_pay122 (F := Ideal) x0 x1) (k0_pay128 (F := Ideal) x0 x1) (ix2 0 s)
    = (schur (gm x0 x1 s) 0 4 3 : EReal) := by
  pointwise [k0_pay62]
  simp only [at_92, at_91, at_122, at_58]
  exact gram_off _ (by decide)

/-- Entry (4, 3) of the Gram matrix. -/
theorem at_132 : k0_pay132 (F := Ideal) x0 x1 (ix2 0 s) = (schur (gm x0 x1 s) 0 4 3 : EReal) := at_62 x0 x1 s

/-- Entry (4, 4) of the Gram matrix. -/
theorem at_63 : k0_pay63 (F := Ideal) (k0_pay92 (F := Ideal) x0 x1) (k0_pay91 (F := Ideal) x0 x1) (k0_pay128 (F := Ideal) x0 x1) (ix2 0 s)
    = (schur (gm x0 x1 s) 0 4 4 : EReal) := by
  pointwise [k0_pay63]
  simp only [at_92, at_91, at_58, diagEps_coe, gram_diag]

/-- The fifth atom's product with the signal. -/
theorem at_64 : k0_pay64 (F := Ideal) (k0_pay92 (F := Ideal) x0 x1) (k0_pay94 (F := Ideal) x0 x1) (k0_pay91 (F := Ideal) x0 x1) (k0_pay128 (F := Ideal) x0 x1) (ix2 0 s)
    = rhs (gm x0 x1 s) (pj x0 x1 s) 0 4 := by
  pointwise [k0_pay64]
  simp only [at_92, at_94, at_91, at_58, rhs_start]

/-- The fifth atom's product with the signal. -/
theorem at_133 : k0_pay133 (F := Ideal) x0 x1 (ix2 0 s) = rhs (gm x0 x1 s) (pj x0 x1 s) 0 4 := at_64 x0 x1 s

/-! ### The refit of five -/

/-- The reciprocal of the Cholesky factor's diagonal entry 0. -/
theorem at_65 : k0_pay65 (F := Ideal) (k0_pay99 (F := Ideal) x0 x1) (ix2 0 s)
    = (rdiag (gm x0 x1 s) 0 : EReal) := by
  pointwise [k0_pay65]
  simp only [at_99, r_eq, c_eq, c_step, y_step, Nat.reduceAdd]

/-- The reciprocal of the Cholesky factor's diagonal entry 0. -/
theorem at_134 : k0_pay134 (F := Ideal) x0 x1 (ix2 0 s) = (rdiag (gm x0 x1 s) 0 : EReal) := at_65 x0 x1 s

/-- Entry (1, 0) of the Cholesky factor. -/
theorem at_66 : k0_pay66 (F := Ideal) (k0_pay99 (F := Ideal) x0 x1) (k0_pay103 (F := Ideal) x0 x1) (ix2 0 s)
    = (chol (gm x0 x1 s) 1 0 : EReal) := by
  pointwise [k0_pay66]
  simp only [at_99, at_103, at_65, r_eq, c_eq, c_step, y_step, Nat.reduceAdd]

/-- Entry (1, 0) of the Cholesky factor. -/
theorem at_135 : k0_pay135 (F := Ideal) x0 x1 (ix2 0 s) = (chol (gm x0 x1 s) 1 0 : EReal) := at_66 x0 x1 s

/-- The reciprocal of the Cholesky factor's diagonal entry 1. -/
theorem at_67 : k0_pay67 (F := Ideal) (k0_pay99 (F := Ideal) x0 x1) (k0_pay103 (F := Ideal) x0 x1) (k0_pay105 (F := Ideal) x0 x1) (ix2 0 s)
    = (rdiag (gm x0 x1 s) 1 : EReal) := by
  pointwise [k0_pay67]
  simp only [at_99, at_103, at_105, at_66, r_eq, c_eq, c_step, y_step, Nat.reduceAdd]

/-- The reciprocal of the Cholesky factor's diagonal entry 1. -/
theorem at_136 : k0_pay136 (F := Ideal) x0 x1 (ix2 0 s) = (rdiag (gm x0 x1 s) 1 : EReal) := at_67 x0 x1 s

/-- Entry (2, 0) of the Cholesky factor. -/
theorem at_68 : k0_pay68 (F := Ideal) (k0_pay99 (F := Ideal) x0 x1) (k0_pay110 (F := Ideal) x0 x1) (ix2 0 s)
    = (chol (gm x0 x1 s) 2 0 : EReal) := by
  pointwise [k0_pay68]
  simp only [at_99, at_110, at_65, r_eq, c_eq, c_step, y_step, Nat.reduceAdd]

/-- Entry (2, 0) of the Cholesky factor. -/
theorem at_137 : k0_pay137 (F := Ideal) x0 x1 (ix2 0 s) = (chol (gm x0 x1 s) 2 0 : EReal) := at_68 x0 x1 s

/-- Entry (2, 1) of the Cholesky factor. -/
theorem at_69 : k0_pay69 (F := Ideal) (k0_pay99 (F := Ideal) x0 x1) (k0_pay103 (F := Ideal) x0 x1) (k0_pay105 (F := Ideal) x0 x1) (k0_pay110 (F := Ideal) x0 x1) (k0_pay111 (F := Ideal) x0 x1) (ix2 0 s)
    = (chol (gm x0 x1 s) 2 1 : EReal) := by
  pointwise [k0_pay69]
  simp only [at_99, at_103, at_105, at_110, at_111, at_68, at_66, at_67, r_eq, c_eq, c_step, y_step, Nat.reduceAdd]

/-- Entry (2, 1) of the Cholesky factor. -/
theorem at_138 : k0_pay138 (F := Ideal) x0 x1 (ix2 0 s) = (chol (gm x0 x1 s) 2 1 : EReal) := at_69 x0 x1 s

/-- The square of the Cholesky factor's entry (2, 0). -/
theorem at_70 : k0_pay70 (F := Ideal) (k0_pay99 (F := Ideal) x0 x1) (k0_pay110 (F := Ideal) x0 x1) (ix2 0 s)
    = (chol (gm x0 x1 s) 2 0 : EReal) * (chol (gm x0 x1 s) 2 0 : EReal) := by
  pointwise [k0_pay70]
  simp only [at_99, at_110, at_68, r_eq, c_eq, c_step, y_step, Nat.reduceAdd]

/-- The square of the Cholesky factor's entry (2, 0). -/
theorem at_139 : k0_pay139 (F := Ideal) x0 x1 (ix2 0 s) = (chol (gm x0 x1 s) 2 0 : EReal) * (chol (gm x0 x1 s) 2 0 : EReal) := at_70 x0 x1 s

/-- The reciprocal of the Cholesky factor's diagonal entry 2. -/
theorem at_71 : k0_pay71 (F := Ideal) (k0_pay112 (F := Ideal) x0 x1) (k0_pay138 (F := Ideal) x0 x1) (k0_pay139 (F := Ideal) x0 x1) (ix2 0 s)
    = (rdiag (gm x0 x1 s) 2 : EReal) := by
  pointwise [k0_pay71]
  simp only [at_112, at_138, at_139, r_eq, c_eq, c_step, y_step, Nat.reduceAdd]

/-- The reciprocal of the Cholesky factor's diagonal entry 2. -/
theorem at_140 : k0_pay140 (F := Ideal) x0 x1 (ix2 0 s) = (rdiag (gm x0 x1 s) 2 : EReal) := at_71 x0 x1 s

/-- Entry (3, 0) of the Cholesky factor. -/
theorem at_72 : k0_pay72 (F := Ideal) (k0_pay123 (F := Ideal) x0 x1) (k0_pay134 (F := Ideal) x0 x1) (ix2 0 s)
    = (chol (gm x0 x1 s) 3 0 : EReal) := by
  pointwise [k0_pay72]
  simp only [at_123, at_134, r_eq, c_eq, c_step, y_step, Nat.reduceAdd]

/-- Entry (3, 0) of the Cholesky factor. -/
theorem at_141 : k0_pay141 (F := Ideal) x0 x1 (ix2 0 s) = (chol (gm x0 x1 s) 3 0 : EReal) := at_72 x0 x1 s

/-- Entry (3, 1) of the Cholesky factor. -/
theorem at_73 : k0_pay73 (F := Ideal) (k0_pay123 (F := Ideal) x0 x1) (k0_pay124 (F := Ideal) x0 x1) (k0_pay134 (F := Ideal) x0 x1) (k0_pay135 (F := Ideal) x0 x1) (k0_pay136 (F := Ideal) x0 x1) (ix2 0 s)
    = (chol (gm x0 x1 s) 3 1 : EReal) := by
  pointwise [k0_pay73]
  simp only [at_123, at_124, at_134, at_135, at_136, at_72, r_eq, c_eq, c_step, y_step, Nat.reduceAdd]

/-- Entry (3, 1) of the Cholesky factor. -/
theorem at_142 : k0_pay142 (F := Ideal) x0 x1 (ix2 0 s) = (chol (gm x0 x1 s) 3 1 : EReal) := at_73 x0 x1 s

/-- Entry (3, 2) of the Cholesky factor. -/
theorem at_74 : k0_pay74 (F := Ideal) (k0_pay112 (F := Ideal) x0 x1) (k0_pay123 (F := Ideal) x0 x1) (k0_pay124 (F := Ideal) x0 x1) (k0_pay125 (F := Ideal) x0 x1) (k0_pay134 (F := Ideal) x0 x1) (k0_pay135 (F := Ideal) x0 x1) (k0_pay136 (F := Ideal) x0 x1) (k0_pay137 (F := Ideal) x0 x1) (k0_pay138 (F := Ideal) x0 x1) (k0_pay139 (F := Ideal) x0 x1) (ix2 0 s)
    = (chol (gm x0 x1 s) 3 2 : EReal) := by
  pointwise [k0_pay74]
  simp only [at_112, at_123, at_124, at_125, at_134, at_135, at_136, at_137, at_138, at_139, at_72, at_73, at_71, r_eq, c_eq, c_step, y_step, Nat.reduceAdd]

/-- Entry (3, 2) of the Cholesky factor. -/
theorem at_143 : k0_pay143 (F := Ideal) x0 x1 (ix2 0 s) = (chol (gm x0 x1 s) 3 2 : EReal) := at_74 x0 x1 s

/-- The reciprocal of the Cholesky factor's diagonal entry 3. -/
theorem at_75 : k0_pay75 (F := Ideal) (k0_pay112 (F := Ideal) x0 x1) (k0_pay123 (F := Ideal) x0 x1) (k0_pay124 (F := Ideal) x0 x1) (k0_pay125 (F := Ideal) x0 x1) (k0_pay126 (F := Ideal) x0 x1) (k0_pay134 (F := Ideal) x0 x1) (k0_pay135 (F := Ideal) x0 x1) (k0_pay136 (F := Ideal) x0 x1) (k0_pay137 (F := Ideal) x0 x1) (k0_pay138 (F := Ideal) x0 x1) (k0_pay139 (F := Ideal) x0 x1) (ix2 0 s)
    = (rdiag (gm x0 x1 s) 3 : EReal) := by
  pointwise [k0_pay75]
  simp only [at_112, at_123, at_124, at_125, at_126, at_134, at_135, at_136, at_137, at_138, at_139, at_72, at_73, at_74, r_eq, c_eq, c_step, y_step, Nat.reduceAdd]

/-- The reciprocal of the Cholesky factor's diagonal entry 3. -/
theorem at_144 : k0_pay144 (F := Ideal) x0 x1 (ix2 0 s) = (rdiag (gm x0 x1 s) 3 : EReal) := at_75 x0 x1 s

/-- Entry (4, 0) of the Cholesky factor. -/
theorem at_76 : k0_pay76 (F := Ideal) (k0_pay129 (F := Ideal) x0 x1) (k0_pay134 (F := Ideal) x0 x1) (ix2 0 s)
    = (chol (gm x0 x1 s) 4 0 : EReal) := by
  pointwise [k0_pay76]
  simp only [at_129, at_134, r_eq, c_eq, c_step, y_step, Nat.reduceAdd]

/-- Entry (4, 0) of the Cholesky factor. -/
theorem at_145 : k0_pay145 (F := Ideal) x0 x1 (ix2 0 s) = (chol (gm x0 x1 s) 4 0 : EReal) := at_76 x0 x1 s

/-- Entry (4, 1) of the Cholesky factor. -/
theorem at_77 : k0_pay77 (F := Ideal) (k0_pay129 (F := Ideal) x0 x1) (k0_pay130 (F := Ideal) x0 x1) (k0_pay134 (F := Ideal) x0 x1) (k0_pay135 (F := Ideal) x0 x1) (k0_pay136 (F := Ideal) x0 x1) (ix2 0 s)
    = (chol (gm x0 x1 s) 4 1 : EReal) := by
  pointwise [k0_pay77]
  simp only [at_129, at_130, at_134, at_135, at_136, at_76, r_eq, c_eq, c_step, y_step, Nat.reduceAdd]

/-- Entry (4, 1) of the Cholesky factor. -/
theorem at_146 : k0_pay146 (F := Ideal) x0 x1 (ix2 0 s) = (chol (gm x0 x1 s) 4 1 : EReal) := at_77 x0 x1 s

/-- Entry (4, 2) of the Cholesky factor. -/
theorem at_78 : k0_pay78 (F := Ideal) (k0_pay112 (F := Ideal) x0 x1) (k0_pay129 (F := Ideal) x0 x1) (k0_pay130 (F := Ideal) x0 x1) (k0_pay131 (F := Ideal) x0 x1) (k0_pay134 (F := Ideal) x0 x1) (k0_pay135 (F := Ideal) x0 x1) (k0_pay136 (F := Ideal) x0 x1) (k0_pay137 (F := Ideal) x0 x1) (k0_pay138 (F := Ideal) x0 x1) (k0_pay139 (F := Ideal) x0 x1) (ix2 0 s)
    = (chol (gm x0 x1 s) 4 2 : EReal) := by
  pointwise [k0_pay78]
  simp only [at_112, at_129, at_130, at_131, at_134, at_135, at_136, at_137, at_138, at_139, at_76, at_77, at_71, r_eq, c_eq, c_step, y_step, Nat.reduceAdd]

/-- Entry (4, 2) of the Cholesky factor. -/
theorem at_147 : k0_pay147 (F := Ideal) x0 x1 (ix2 0 s) = (chol (gm x0 x1 s) 4 2 : EReal) := at_78 x0 x1 s

/-- Entry (4, 3) of the Cholesky factor. -/
theorem at_79 : k0_pay79 (F := Ideal) (k0_pay112 (F := Ideal) x0 x1) (k0_pay123 (F := Ideal) x0 x1) (k0_pay124 (F := Ideal) x0 x1) (k0_pay125 (F := Ideal) x0 x1) (k0_pay126 (F := Ideal) x0 x1) (k0_pay129 (F := Ideal) x0 x1) (k0_pay130 (F := Ideal) x0 x1) (k0_pay131 (F := Ideal) x0 x1) (k0_pay132 (F := Ideal) x0 x1) (k0_pay134 (F := Ideal) x0 x1) (k0_pay135 (F := Ideal) x0 x1) (k0_pay136 (F := Ideal) x0 x1) (k0_pay137 (F := Ideal) x0 x1) (k0_pay138 (F := Ideal) x0 x1) (k0_pay139 (F := Ideal) x0 x1) (ix2 0 s)
    = (chol (gm x0 x1 s) 4 3 : EReal) := by
  pointwise [k0_pay79]
  simp only [at_112, at_123, at_124, at_125, at_126, at_129, at_130, at_131, at_132, at_134, at_135, at_136, at_137, at_138, at_139, at_76, at_72, at_77, at_73, at_78, at_74, at_75, r_eq, c_eq, c_step, y_step, Nat.reduceAdd]

/-- Entry (4, 3) of the Cholesky factor. -/
theorem at_148 : k0_pay148 (F := Ideal) x0 x1 (ix2 0 s) = (chol (gm x0 x1 s) 4 3 : EReal) := at_79 x0 x1 s

/-- The reciprocal of the Cholesky factor's diagonal entry 4. -/
theorem at_80 : k0_pay80 (F := Ideal) (k0_pay112 (F := Ideal) x0 x1) (k0_pay123 (F := Ideal) x0 x1) (k0_pay124 (F := Ideal) x0 x1) (k0_pay125 (F := Ideal) x0 x1) (k0_pay126 (F := Ideal) x0 x1) (k0_pay129 (F := Ideal) x0 x1) (k0_pay130 (F := Ideal) x0 x1) (k0_pay131 (F := Ideal) x0 x1) (k0_pay132 (F := Ideal) x0 x1) (k0_pay63 (F := Ideal) (k0_pay92 (F := Ideal) x0 x1) (k0_pay91 (F := Ideal) x0 x1) (k0_pay128 (F := Ideal) x0 x1)) (k0_pay134 (F := Ideal) x0 x1) (k0_pay135 (F := Ideal) x0 x1) (k0_pay136 (F := Ideal) x0 x1) (k0_pay137 (F := Ideal) x0 x1) (k0_pay138 (F := Ideal) x0 x1) (k0_pay139 (F := Ideal) x0 x1) (ix2 0 s)
    = (rdiag (gm x0 x1 s) 4 : EReal) := by
  pointwise [k0_pay80]
  simp only [at_112, at_123, at_124, at_125, at_126, at_129, at_130, at_131, at_132, at_63, at_134, at_135, at_136, at_137, at_138, at_139, at_76, at_77, at_78, at_79, r_eq, c_eq, c_step, y_step, Nat.reduceAdd]

/-- The reciprocal of the Cholesky factor's diagonal entry 4. -/
theorem at_149 : k0_pay149 (F := Ideal) x0 x1 (ix2 0 s) = (rdiag (gm x0 x1 s) 4 : EReal) := at_80 x0 x1 s

/-- Entry 0 of the forward substitution. -/
theorem at_81 : k0_pay81 (F := Ideal) (k0_pay100 (F := Ideal) x0 x1) (k0_pay134 (F := Ideal) x0 x1) (ix2 0 s)
    = rhs (gm x0 x1 s) (pj x0 x1 s) 0 0 * (rdiag (gm x0 x1 s) 0 : EReal) := by
  pointwise [k0_pay81]
  simp only [at_100, at_134, r_eq, c_eq, c_step, y_step, Nat.reduceAdd]

/-- Entry 0 of the forward substitution. -/
theorem at_150 : k0_pay150 (F := Ideal) x0 x1 (ix2 0 s) = rhs (gm x0 x1 s) (pj x0 x1 s) 0 0 * (rdiag (gm x0 x1 s) 0 : EReal) := at_81 x0 x1 s

/-- Entry 1 of the forward substitution. -/
theorem at_82 : k0_pay82 (F := Ideal) (k0_pay100 (F := Ideal) x0 x1) (k0_pay106 (F := Ideal) x0 x1) (k0_pay134 (F := Ideal) x0 x1) (k0_pay135 (F := Ideal) x0 x1) (k0_pay136 (F := Ideal) x0 x1) (ix2 0 s)
    = rhs (gm x0 x1 s) (pj x0 x1 s) 1 1 * (rdiag (gm x0 x1 s) 1 : EReal) := by
  pointwise [k0_pay82]
  simp only [at_100, at_106, at_134, at_135, at_136, at_81, r_eq, c_eq, c_step, y_step, Nat.reduceAdd]

/-- Entry 1 of the forward substitution. -/
theorem at_151 : k0_pay151 (F := Ideal) x0 x1 (ix2 0 s) = rhs (gm x0 x1 s) (pj x0 x1 s) 1 1 * (rdiag (gm x0 x1 s) 1 : EReal) := at_82 x0 x1 s

/-- Entry 2 of the right-hand side after 1 elimination step. -/
theorem at_83 : k0_pay83 (F := Ideal) (k0_pay100 (F := Ideal) x0 x1) (k0_pay113 (F := Ideal) x0 x1) (k0_pay134 (F := Ideal) x0 x1) (k0_pay137 (F := Ideal) x0 x1) (ix2 0 s)
    = rhs (gm x0 x1 s) (pj x0 x1 s) 1 2 := by
  pointwise [k0_pay83]
  simp only [at_100, at_113, at_134, at_137, at_81, r_eq, c_eq, c_step, y_step, Nat.reduceAdd]

/-- Entry 2 of the right-hand side after 1 elimination step. -/
theorem at_152 : k0_pay152 (F := Ideal) x0 x1 (ix2 0 s) = rhs (gm x0 x1 s) (pj x0 x1 s) 1 2 := at_83 x0 x1 s

/-- Entry 2 of the forward substitution. -/
theorem at_84 : k0_pay84 (F := Ideal) (k0_pay138 (F := Ideal) x0 x1) (k0_pay140 (F := Ideal) x0 x1) (k0_pay151 (F := Ideal) x0 x1) (k0_pay152 (F := Ideal) x0 x1) (ix2 0 s)
    = rhs (gm x0 x1 s) (pj x0 x1 s) 2 2 * (rdiag (gm x0 x1 s) 2 : EReal) := by
  pointwise [k0_pay84]
  simp only [at_138, at_140, at_151, at_152, r_eq, c_eq, c_step, y_step, Nat.reduceAdd]

/-- Entry 3 of the forward substitution. -/
theorem at_85 : k0_pay85 (F := Ideal) (k0_pay127 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay150 (F := Ideal) x0 x1) (k0_pay151 (F := Ideal) x0 x1) (k0_pay152 (F := Ideal) x0 x1) (ix2 0 s)
    = rhs (gm x0 x1 s) (pj x0 x1 s) 3 3 * (rdiag (gm x0 x1 s) 3 : EReal) := by
  pointwise [k0_pay85]
  simp only [at_127, at_138, at_140, at_141, at_142, at_143, at_144, at_150, at_151, at_152, at_84, r_eq, c_eq, c_step, y_step, Nat.reduceAdd]

/-- The fifth atom's weight in the refit over all five atoms. -/
theorem at_86 : k0_pay86 (F := Ideal) (k0_pay127 (F := Ideal) x0 x1) (k0_pay133 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay145 (F := Ideal) x0 x1) (k0_pay146 (F := Ideal) x0 x1) (k0_pay147 (F := Ideal) x0 x1) (k0_pay148 (F := Ideal) x0 x1) (k0_pay149 (F := Ideal) x0 x1) (k0_pay150 (F := Ideal) x0 x1) (k0_pay151 (F := Ideal) x0 x1) (k0_pay152 (F := Ideal) x0 x1) (ix2 0 s)
    = wt x0 x1 s 5 4 := by
  pointwise [k0_pay86]
  simp only [at_127, at_133, at_138, at_140, at_141, at_142, at_143, at_144, at_145, at_146, at_147, at_148, at_149, at_150, at_151, at_152, at_84, at_85, r_eq, c_eq, c_step, y_step, Nat.reduceAdd, w_0]

/-- The fourth atom's weight in the refit over all five atoms. -/
theorem at_87 : k0_pay87 (F := Ideal) (k0_pay127 (F := Ideal) x0 x1) (k0_pay133 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay145 (F := Ideal) x0 x1) (k0_pay146 (F := Ideal) x0 x1) (k0_pay147 (F := Ideal) x0 x1) (k0_pay148 (F := Ideal) x0 x1) (k0_pay149 (F := Ideal) x0 x1) (k0_pay150 (F := Ideal) x0 x1) (k0_pay151 (F := Ideal) x0 x1) (k0_pay152 (F := Ideal) x0 x1) (ix2 0 s)
    = wt x0 x1 s 5 3 := by
  pointwise [k0_pay87]
  simp only [at_127, at_133, at_138, at_140, at_141, at_142, at_143, at_144, at_145, at_146, at_147, at_148, at_149, at_150, at_151, at_152, at_86, at_85, r_eq, c_eq, c_step, y_step, Nat.reduceAdd, w_1 (i := 3) (j := 4) (m := 5) _ rfl rfl]

/-- The third atom's weight in the refit over all five atoms. -/
theorem at_88 : k0_pay88 (F := Ideal) (k0_pay127 (F := Ideal) x0 x1) (k0_pay133 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay145 (F := Ideal) x0 x1) (k0_pay146 (F := Ideal) x0 x1) (k0_pay147 (F := Ideal) x0 x1) (k0_pay148 (F := Ideal) x0 x1) (k0_pay149 (F := Ideal) x0 x1) (k0_pay150 (F := Ideal) x0 x1) (k0_pay151 (F := Ideal) x0 x1) (k0_pay152 (F := Ideal) x0 x1) (ix2 0 s)
    = wt x0 x1 s 5 2 := by
  pointwise [k0_pay88]
  simp only [at_127, at_133, at_138, at_140, at_141, at_142, at_143, at_144, at_145, at_146, at_147, at_148, at_149, at_150, at_151, at_152, at_87, at_84, at_86, r_eq, c_eq, c_step, y_step, Nat.reduceAdd, w_2 (i := 2) (j := 3) (k := 4) (m := 5) _ rfl rfl rfl]

/-- The first two terms of the last reconstruction. -/
theorem at_89 : k0_pay89 (F := Ideal) (k0_pay96 (F := Ideal) x0 x1) (k0_pay102 (F := Ideal) x0 x1) (k0_pay127 (F := Ideal) x0 x1) (k0_pay133 (F := Ideal) x0 x1) (k0_pay134 (F := Ideal) x0 x1) (k0_pay135 (F := Ideal) x0 x1) (k0_pay136 (F := Ideal) x0 x1) (k0_pay137 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay145 (F := Ideal) x0 x1) (k0_pay146 (F := Ideal) x0 x1) (k0_pay147 (F := Ideal) x0 x1) (k0_pay148 (F := Ideal) x0 x1) (k0_pay149 (F := Ideal) x0 x1) (k0_pay150 (F := Ideal) x0 x1) (k0_pay151 (F := Ideal) x0 x1) (k0_pay152 (F := Ideal) x0 x1) (ix2 c s)
    = wt x0 x1 s 5 0 * (dict x1 c (pk x0 x1 s 0) : EReal) + wt x0 x1 s 5 1 * (dict x1 c (pk x0 x1 s 1) : EReal) := by
  pointwise [k0_pay89]
  simp only [at_96, at_102, at_127, at_133, at_134, at_135, at_136, at_137, at_138, at_140, at_141, at_142, at_143, at_144, at_145, at_146, at_147, at_148, at_149, at_150, at_151, at_152, at_88, at_87, at_86, r_eq, c_eq, c_step, y_step, Nat.reduceAdd, w_4 (i := 0) (j := 1) (k := 2) (l := 3) (n := 4) (m := 5) _ rfl rfl rfl rfl rfl, w_3 (i := 1) (j := 2) (k := 3) (l := 4) (m := 5) _ rfl rfl rfl rfl]

/-- The third term of the last reconstruction. -/
theorem at_90 : k0_pay90 (F := Ideal) (k0_pay109 (F := Ideal) x0 x1) (k0_pay127 (F := Ideal) x0 x1) (k0_pay133 (F := Ideal) x0 x1) (k0_pay138 (F := Ideal) x0 x1) (k0_pay140 (F := Ideal) x0 x1) (k0_pay141 (F := Ideal) x0 x1) (k0_pay142 (F := Ideal) x0 x1) (k0_pay143 (F := Ideal) x0 x1) (k0_pay144 (F := Ideal) x0 x1) (k0_pay145 (F := Ideal) x0 x1) (k0_pay146 (F := Ideal) x0 x1) (k0_pay147 (F := Ideal) x0 x1) (k0_pay148 (F := Ideal) x0 x1) (k0_pay149 (F := Ideal) x0 x1) (k0_pay150 (F := Ideal) x0 x1) (k0_pay151 (F := Ideal) x0 x1) (k0_pay152 (F := Ideal) x0 x1) (ix2 c s)
    = wt x0 x1 s 5 2 * (dict x1 c (pk x0 x1 s 2) : EReal) := by
  pointwise [k0_pay90]
  simp only [at_109, at_127, at_133, at_138, at_140, at_141, at_142, at_143, at_144, at_145, at_146, at_147, at_148, at_149, at_150, at_151, at_152, at_88, r_eq, c_eq, c_step, y_step, Nat.reduceAdd]

end Cert.KernelIdeal.Gen

end
-- ==== Proof.Out.lean ====
module

public import proofs.«01_k».proof.Proof.Lane4
public import Idealize.ShloMosaic.Lib.Pointwise
public import Idealize.ShloMosaic.Lib.ValueIdx

@[expose] public section

set_option maxRecDepth 16384

/-!
The block the kernel's body stores: at each channel and lane, the reconstruction of the lane's signal from its five picked atoms.
-/

noncomputable section

namespace Cert.KernelIdeal.Gen

open Idealize.ShloMosaic Cert.Omp

variable (x0 : Vec Ideal S1x64x2048 .f32) (x1 : Vec Ideal S64x512 .f32)

/-- The stored block holds, at channel `c` and lane `s`, the five-atom reconstruction of the lane's signal. -/
theorem out_at (c : Fin 64) (s : Fin 2048) :
    out0_2 (F := Ideal) x0 x1 (ix3 0 c s) = recon (dict x1) (sg x0 s) (pk x0 x1 s) 5 c := by
  have hz : (![0, 0, 0] : Fin S1x64x2048.rank → Nat) = fun _ => 0 := funext fun a => by fin_cases a <;> rfl
  unfold out0_2
  rw [View.canon_unit_zero hz]
  pointwise [k0_pay1]
  rw [at_122, at_58, at_86, at_87, at_89, at_90]
  simp only [recon, Finset.sum_range_succ, Finset.sum_range_zero, zero_add, wt]

end Cert.KernelIdeal.Gen

end
-- ==== Proof.Blocks.lean ====
module

public import proofs.«01_k».proof.Proof.Out

@[expose] public section

set_option maxRecDepth 16384

/-!
The kernel's result array after the run: every grid point stores the reconstruction of its own signals, and the blocks cover the
array.
-/

noncomputable section

namespace Cert.KernelIdeal.Gen

open Idealize.ShloMosaic Cert.Omp

variable (m : (l : Loc nD τ sig) → Buf (Elt Ideal) l)

/-- The dictionary with unit columns, from the dictionary given. -/
abbrev unitOf (d : Vec Ideal S64x512 .f32) : Fin 64 → Fin 512 → ℝ := unit fun c n => d (ix2 c n)

/-- The signals as the kernel's launch finds them: 8 images, 64 channels, 4096 places. -/
abbrev rows (c : Dev nD) : Vec Ideal S8x64x4096 .f32 := V m c main_v0

/-- The dictionary as launched. -/
abbrev dic (c : Dev nD) : Vec Ideal S64x512 .f32 := m (c.tc.loc main_arg1)

/-- The signal of image `b` at place `p`. -/
abbrev rowSig (z : Vec Ideal S8x64x4096 .f32) (b : Fin 8) (p : Fin 4096) : Fin 64 → EReal := fun ch => z (ix3 b ch p)

/-- The kernel's whole result array: the five-atom reconstruction of every signal. -/
def target (c : Dev nD) : Vec Ideal S8x64x4096 .f32 := fun i =>
  recon (unitOf (dic m c)) (rowSig (rows m c) (i 0) (i 2)) (atom (unitOf (dic m c)) (rowSig (rows m c) (i 0) (i 2))) 5 (i 1)

/-- The signals' block at a grid point: half the point picks the image, its parity the half of the image. -/
theorem index_0 : ∀ t : Fin grid0.N, win0_0.index t 0 = t.val / 2 ∧ win0_0.index t 1 = 0 ∧ win0_0.index t 2 = t.val % 2 := by
  decide +kernel
/-- The dictionary's block is the same at every grid point. -/
theorem index_1 : ∀ t : Fin grid0.N, win0_1.index t 0 = 0 ∧ win0_1.index t 1 = 0 := by decide +kernel
/-- The result's block at a grid point is the signals' block. -/
theorem index_2 : ∀ t : Fin grid0.N, win0_2.index t 0 = t.val / 2 ∧ win0_2.index t 1 = 0 ∧ win0_2.index t 2 = t.val % 2 := by
  decide +kernel
/-- Every block of the result is whole. -/
theorem xsize_2 : ∀ t : Fin grid0.N, win0_2.xsize (grid0.coords t) 0 = 1 ∧ win0_2.xsize (grid0.coords t) 1 = 64
    ∧ win0_2.xsize (grid0.coords t) 2 = 2048 := by decide +kernel

/-- There are sixteen grid points. -/
theorem point_lt (t : Fin grid0.N) : t.val < 16 := lt_of_lt_of_eq t.isLt N_0

/-- The signals' block at point `t` starts at image `t / 2`, place `2048 (t mod 2)`. -/
theorem block_0 (c : Dev nD) (t : Fin grid0.N) (ch : Fin 64) (s : Fin 2048) :
    (iblk (F := Ideal) m c 0 t : Vec Ideal S1x64x2048 .f32) (ix3 0 ch s)
      = rows m c (ix3 ⟨t.val / 2, by have := point_lt t; omega⟩ ch ⟨t.val % 2 * 2048 + s.val, by have := s.isLt; omega⟩) := by
  show V m c main_v0 ((win0_0.rect t).emb (ix3 0 ch s)) = _
  congr 1
  obtain ⟨h0, h1, h2⟩ := index_0 t
  funext a; apply Fin.ext
  refine (Pipeline.Window.rect_emb_val win0_0 t _ a).trans ?_
  fin_cases a
  · show win0_0.index t 0 * 1 + 0 = t.val / 2; rw [h0]; omega
  · show win0_0.index t 1 * 64 + ch.val = ch.val; rw [h1]; omega
  · show win0_0.index t 2 * 2048 + s.val = t.val % 2 * 2048 + s.val; rw [h2]

/-- The dictionary's block at every point is the whole dictionary. -/
theorem block_1 (c : Dev nD) (t : Fin grid0.N) : (iblk (F := Ideal) m c 1 t : Vec Ideal S64x512 .f32) = dic m c := by
  funext j
  show V m c main_arg1 ((win0_1.rect t).emb j) = _
  rw [V_main_arg1]
  show _ = m (c.tc.loc main_arg1) j
  congr 1
  obtain ⟨h0, h1⟩ := index_1 t
  funext a; apply Fin.ext
  refine (Pipeline.Window.rect_emb_val win0_1 t _ a).trans ?_
  fin_cases a
  · show win0_1.index t 0 * 64 + (j 0).val = (j 0).val; rw [h0]; omega
  · show win0_1.index t 1 * 512 + (j 1).val = (j 1).val; rw [h1]; omega

/-- What point `t` leaves is its block of the target array. -/
theorem flushed_eq (c : Dev nD) (t : Fin grid0.N) :
    (dats (F := Ideal) m 0 c).flushed 2 t = ((cfg0.win 2).blk t).view.read (Elt Ideal) (target m c) := by
  show (cfg0.win 2).cut (grid0.coords t) ((dats (F := Ideal) m 0 c).after 2 t) = _
  rw [after0_2, block_1]
  funext j
  show out0_2 (F := Ideal) (iblk m c 0 t) (dic m c) j = target m c ((win0_2.rect t).emb j)
  obtain ⟨h0, h1, h2⟩ := index_2 t
  have e : ((win0_2.rect t).emb j : S8x64x4096.Idx)
      = ix3 ⟨t.val / 2, by have := point_lt t; omega⟩ (j 1)
          ⟨t.val % 2 * 2048 + (j 2).val, by have : (j 2).val < 2048 := (j 2).isLt; omega⟩ := by
    funext a; apply Fin.ext
    refine (Pipeline.Window.rect_emb_val win0_2 t _ a).trans ?_
    have hj : (j 0).val < 1 := (j 0).isLt
    fin_cases a
    · show win0_2.index t 0 * 1 + (j 0).val = t.val / 2; rw [h0]; omega
    · show win0_2.index t 1 * 64 + (j 1).val = (j 1).val; rw [h1]; omega
    · show win0_2.index t 2 * 2048 + (j 2).val = t.val % 2 * 2048 + (j 2).val; rw [h2]
  have ej : (j : S1x64x2048.Idx) = ix3 0 (j 1) (j 2) := by
    have hj : (j 0).val < 1 := (j 0).isLt
    funext a; fin_cases a
    · apply Fin.ext; show (j 0).val = 0; omega
    · rfl
    · rfl
  rw [e, ej]
  refine (out_at _ _ _ _).trans ?_
  have hs : sg (iblk (F := Ideal) m c 0 t) (j 2) = rowSig (rows m c) ⟨t.val / 2, by have := point_lt t; omega⟩
      ⟨t.val % 2 * 2048 + (j 2).val, by have : (j 2).val < 2048 := (j 2).isLt; omega⟩ := funext fun ch => block_0 m c t ch (j 2)
  unfold pk
  rw [hs]
  rfl

/-- The elements under point `t`'s block. -/
theorem mem_blk (t : Fin grid0.N) (i : S8x64x4096.Idx) : i ∈ ((cfg0.win 2).blk t).view.set ↔
    ∀ a, win0_2.index t a * win0_2.size a ≤ (i a).val ∧ (i a).val < win0_2.index t a * win0_2.size a + win0_2.xsize (grid0.coords t) a := by
  show i ∈ ((View.whole main_v1).slice (win0_2.rect t)).set ↔ _
  rw [View.set_slice_whole, Rect.mem_set_unit]

/-- Every element of the array lies under some point's block. -/
theorem cover (i : S8x64x4096.Idx) : ∃ t : Fin cfg0.N, (cfg0.win 2).flush t = true ∧ i ∈ ((cfg0.win 2).blk t).view.set := by
  have b0 : (i 0).val < 8 := (i 0).isLt
  have b1 : (i 1).val < 64 := (i 1).isLt
  have b2 : (i 2).val < 4096 := (i 2).isLt
  have ht : 2 * (i 0).val + (i 2).val / 2048 < grid0.N := by rw [N_0]; omega
  refine ⟨⟨2 * (i 0).val + (i 2).val / 2048, ht⟩, flush0_2 _, ?_⟩
  rw [mem_blk]
  obtain ⟨h0, h1, h2⟩ := index_2 ⟨_, ht⟩
  obtain ⟨x0, x1, x2⟩ := xsize_2 ⟨_, ht⟩
  intro a
  fin_cases a
  · show win0_2.index _ 0 * 1 ≤ (i 0).val ∧ (i 0).val < win0_2.index _ 0 * 1 + win0_2.xsize _ 0
    rw [h0, x0]; dsimp only; omega
  · show win0_2.index _ 1 * 64 ≤ (i 1).val ∧ (i 1).val < win0_2.index _ 1 * 64 + win0_2.xsize _ 1
    rw [h1, x1]; omega
  · show win0_2.index _ 2 * 2048 ≤ (i 2).val ∧ (i 2).val < win0_2.index _ 2 * 2048 + win0_2.xsize _ 2
    rw [h2, x2]; dsimp only; omega

/-- The kernel's result array after the run. -/
theorem final_array (c : Dev nD) : (dats (F := Ideal) m 0 c).arrAt 2 cfg0.N = target m c :=
  (dats (F := Ideal) m 0 c).arrAt_eq_of_cover 2 (target m c) (fun t _ => flushed_eq m c t) cover

end Cert.KernelIdeal.Gen

end
-- ==== Proof.Tail.lean ====
module

public import proofs.«01_k».proof.Proof.Blocks
public import Idealize.ShloMosaic.Lib.Pointwise
public import Idealize.ShloMosaic.Lib.ValueIdx

@[expose] public section

set_option maxRecDepth 16384

/-!
The kernel's run: its result is, at every element, the input plus (the signal's five-atom reconstruction less the input).
-/

noncomputable section

namespace Cert.KernelIdeal.Gen

open Idealize.ShloMosaic Cert.Omp

/-- The signal (64 channels) to which an element of the input belongs. -/
abbrev pixel (z : Vec Ideal S8x64x64x64 .f32) (i : S8x64x64x64.Idx) : Fin 64 → EReal := fun ch => z (ix4 (i 0) ch (i 2) (i 3))

/-- The result as a function of the two arguments. -/
def value (z : Vec Ideal S8x64x64x64 .f32) (d : Vec Ideal S64x512 .f32) : Vec Ideal S8x64x64x64 .f32 := fun i =>
  z i + (recon (unitOf d) (pixel z i) (atom (unitOf d) (pixel z i)) 5 (i 1) - z i)

variable (m : (l : Loc nD τ sig) → Buf (Elt Ideal) l)

/-- The input as launched. -/
abbrev inp (c : Dev nD) : Vec Ideal S8x64x64x64 .f32 := m (c.tc.loc main_arg0)

/-- The signals' array at the launch is the input, its two last axes merged. -/
theorem rows_eq (c : Dev nD) (b : Fin 8) (ch : Fin 64) (p : Fin 4096) (h w : Fin 64) (hp : p.val = 64 * h.val + w.val) :
    rows m c (ix3 b ch p) = (inp m c) (ix4 b ch h w) := by
  have e : rows m c = shapeCast S8x64x4096 (inp m c) shapeCasts_S8x64x64x64_S8x64x4096 := by
    show V m c main_v0 = _
    show StableHlo.after (List.flatten [hostOps0]) (fun b => m (c, b)) (Proc.devRef .tc main_v0) = _
    simp only [hostOps0, List.flatten_cons, List.flatten_nil, List.append_nil, List.cons_append, List.nil_append]
    after_results
    rfl
  rw [e]
  refine shapeCast_apply (inp m c) _ _ _ ?_
  rw [Shape.rowMajor_val_four, Shape.rowMajor_val_three]
  show ((b.val * 64 + ch.val) * 64 + h.val) * 64 + w.val = (b.val * 64 + ch.val) * 4096 + p.val
  omega

/-- The result buffer after the host operations that follow the kernel. -/
theorem tail_eq (c : Dev nD) :
    Pipeline.afterTail₀ cfgs (dats (F := Ideal) m) 0 (V0 m) [hostOps1] c main_v4
      = value (inp m c) (dic m c) := by
  unfold Pipeline.afterTail₀
  simp only [hostOps1, List.flatten_cons, List.flatten_nil, List.append_nil, List.cons_append, List.nil_append]
  after_results
  have ha : Pipeline.withArrays (cfgs 0).spec c (V0 m c) (fun w => (dats (F := Ideal) m 0 c).arrAt w (cfgs 0).N)
      (Proc.devRef .tc main_arg0) = inp m c := by
    rw [Pipeline.withArrays_of_ne _ c (V0 m c) _ main_arg0 (by exact (by decide : ∀ w, Pipeline.arrRef spec0 w ≠ main_arg0))]
    exact V_main_arg0 m c
  have hv : Pipeline.withArrays (cfgs 0).spec c (V0 m c) (fun w => (dats (F := Ideal) m 0 c).arrAt w (cfgs 0).N)
      (Proc.devRef .tc main_v1) = target m c :=
    (Pipeline.withArrays_arr spec0 (by decide) c (V0 m c) (fun w => (dats (F := Ideal) m 0 c).arrAt w cfg0.N) 2).trans
      (final_array m c)
  rw [ha, hv]
  funext i
  have e : shapeCast S8x64x64x64 (target m c) shapeCasts_S8x64x4096_S8x64x64x64 i
      = target m c (ix3 (i 0) (i 1) ⟨64 * (i 2).val + (i 3).val, by
          have h2 : (i 2).val < 64 := (i 2).isLt; have h3 : (i 3).val < 64 := (i 3).isLt; omega⟩) := by
    refine shapeCast_apply _ _ _ _ ?_
    rw [Shape.rowMajor_val_four, Shape.rowMajor_val_three]
    show ((i 0).val * 64 + (i 1).val) * 4096 + (64 * (i 2).val + (i 3).val)
      = (((i 0).val * 64 + (i 1).val) * 64 + (i 2).val) * 64 + (i 3).val
    omega
  show inp m c i + (shapeCast S8x64x64x64 (target m c) shapeCasts_S8x64x4096_S8x64x64x64 i - inp m c i) = _
  rw [e]
  have hs : rowSig (rows m c) (i 0) ⟨64 * (i 2).val + (i 3).val, by
      have h2 : (i 2).val < 64 := (i 2).isLt; have h3 : (i 3).val < 64 := (i 3).isLt; omega⟩ = pixel (inp m c) i :=
    funext fun ch => rows_eq m c (i 0) ch _ (i 2) (i 3) rfl
  unfold target value
  show _ + (recon (unitOf (dic m c)) (rowSig (rows m c) (i 0) ⟨64 * (i 2).val + (i 3).val, _⟩)
    (atom (unitOf (dic m c)) (rowSig (rows m c) (i 0) ⟨64 * (i 2).val + (i 3).val, _⟩)) 5 (i 1) - _) = _
  rw [hs]

/-- The kernel's run leaves the result in its buffer and both arguments as they were. -/
theorem run_value (ρ : Dev nD → PrngReg) :
    θ_run defs (onTc (τ := τ) (main (F := Ideal))) ⟨m, fun _ => 0, ρ⟩ (fun r => ∀ c : Dev nD,
      r.2.mem (c.tc.loc main_v4) = value (inp m c) (dic m c)
      ∧ r.2.mem (c.tc.loc main_arg0) = m (c.tc.loc main_arg0)
      ∧ r.2.mem (c.tc.loc main_arg1) = m (c.tc.loc main_arg1)) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩) (run_main m ρ)

end Cert.KernelIdeal.Gen

end
-- ==== Proof.RefValue.lean ====
module

public import proofs.«01_k».proof.Proof.Round5
public import proofs.«01_k».proof.Proof.Tail
public import Idealize.ShloMosaic.Lib.Pointwise
public import Idealize.ShloMosaic.Lib.ValueIdx

@[expose] public section

set_option maxRecDepth 16384

/-!
The reference's result: the same function of the two arguments as the kernel's.
-/

noncomputable section

namespace Cert.ReferenceIdeal.Read

open Idealize.ShloMosaic Cert.Omp Cert.ReferenceIdeal.Gen

variable (x0 : Vec Ideal S8x64x64x64 .f32) (x1 : Vec Ideal S64x512 .f32)

/-- The dictionary, transposed for the last product. -/
theorem at_v582 (n : Fin 512) (c : Fin 64) : val_main_v582 (F := Ideal) x1 (ix2 n c) = (rd x1 c n : EReal) := by
  pointwise [val_main_v582]
  simp only [at_v4]

/-- A signal rebuilt from its five atoms. -/
theorem at_v583 (s : Fin 32768) (c : Fin 64) : val_main_v583 (F := Ideal) x0 x1 (ix2 s c)
    = recon (rd x1) (rs x0 s) (rp x0 x1 s) 5 c := by
  pointwise [val_main_v583]
  simp only [at_v581, at_v582]
  exact recon_eq_sum (by decide) (rwt x0 x1 s 5) c

/-- The row of the signals' matrix that holds a pixel's channels. -/
def rowOf (b : Fin 8) (h w : Fin 64) : Fin 32768 := ⟨(b.val * 64 + h.val) * 64 + w.val, by omega⟩

/-- The signals' matrix holds the channels of pixel `(b, h, w)` in that row. -/
theorem rs_row (b : Fin 8) (h w : Fin 64) : rs x0 (rowOf b h w) = fun ch => x0 (ix4 b ch h w) := by
  funext ch
  refine (shapeCast_apply (val_main_v5 (F := Ideal) x0) _ _ (ix4 b h w ch) ?_).trans ?_
  · rw [Shape.rowMajor_val_four, Shape.rowMajor_val_two]
    rfl
  · pointwise [val_main_v5]

/-- The rebuilt signals, back in the input's layout. -/
theorem at_v585 (b : Fin 8) (c h w : Fin 64) : val_main_v585 (F := Ideal) x0 x1 (ix4 b c h w)
    = recon (rd x1) (rs x0 (rowOf b h w)) (rp x0 x1 (rowOf b h w)) 5 c := by
  have e : val_main_v585 (F := Ideal) x0 x1 (ix4 b c h w) = val_main_v584 (F := Ideal) x0 x1 (ix4 b h w c) := by
    rw [val_main_v585]
    pointwise []
  rw [e]
  refine (shapeCast_apply (val_main_v583 (F := Ideal) x0 x1) _ _ (ix2 (rowOf b h w) c) ?_).trans (at_v583 x0 x1 _ c)
  rw [Shape.rowMajor_val_four, Shape.rowMajor_val_two]
  rfl

/-- The reference's result is the kernel's value of the same arguments. -/
theorem result_eq : val_main_v587 (F := Ideal) x0 x1 = Cert.KernelIdeal.Gen.value x0 x1 := by
  funext i
  obtain ⟨b, c, h, w, rfl⟩ : ∃ b c h w, i = ix4 b c h w := ⟨i 0, i 1, i 2, i 3, by funext a; fin_cases a <;> rfl⟩
  have e : val_main_v587 (F := Ideal) x0 x1 (ix4 b c h w)
      = x0 (ix4 b c h w) + (val_main_v585 (F := Ideal) x0 x1 (ix4 b c h w) - x0 (ix4 b c h w)) := rfl
  rw [e, at_v585, rp, rs_row]
  rfl

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.ReferenceIdeal.Run
public import proofs.«01_k».proof.Proof.Gen.ReferenceIdeal.Read
public import proofs.«01_k».proof.Proof.RefValue
public import proofs.«01_k».proof.Proof.Tail
public import Idealize.ShloMosaic.Adequacy
public import Idealize.ShloMosaic.Init

@[expose] public section

noncomputable section

namespace Cert.Proof

open Idealize.ShloMosaic Idealize.ShloMosaic.StableHlo Idealize.SL.Sem Cert.Kernel

/-- The reference ends with its arguments unchanged and every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference, read over the extended reals, end with the same result: for every pixel the input plus (its
five-atom reconstruction less the input). -/
theorem algebraic : Cert.algebraic_KernelIdeal_ReferenceIdeal := fun m g m' g' _ hm =>
  ⟨fun c => Cert.KernelIdeal.Gen.value (Cert.KernelIdeal.Gen.inp m c) (Cert.KernelIdeal.Gen.dic m c),
    Cert.KernelIdeal.Gen.run_value m g,
    (θ_run Cert.ReferenceIdeal.defs _ _).mono
      (fun r h c => ⟨(h c).1.trans ((Cert.ReferenceIdeal.Read.val_main_v587_eq (F := Ideal)
          (launchContents m' c)).trans
          ((Cert.ReferenceIdeal.Read.result_eq _ _).trans
            (congrArg₂ Cert.KernelIdeal.Gen.value (hm c).1 (hm c).2))), (h c).2⟩)
      (Cert.ReferenceIdeal.Value.run (F := Ideal) m' g')⟩

/-- The frames of the three programs, that idealizing changed nothing but the numbers, and that kernel and reference
compute the same. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
